-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x1024 : Shape := ⟨2, ![1024, 1024]⟩
abbrev S1024x64 : Shape := ⟨2, ![1024, 64]⟩
abbrev S16x64x64 : Shape := ⟨3, ![16, 64, 64]⟩
abbrev S2 : Shape := ⟨1, ![2]⟩
abbrev S15 : Shape := ⟨1, ![15]⟩
abbrev S_ : Shape := ⟨0, ![]⟩
abbrev S1 : Shape := ⟨1, ![1]⟩
abbrev S64x64 : Shape := ⟨2, ![64, 64]⟩
abbrev S1x64x64 : Shape := ⟨3, ![1, 64, 64]⟩

abbrev nBuf : Space → Nat
  | .hbm => 3
  | .vmem => 4
  | .smem => 0
  | _ => 0

abbrev bufTy : (tb : Table) → Fin (tcTables nBuf tb) → BufTy
  | .hbm, ⟨0, _⟩ => ⟨S64x1024, .f32⟩
  | .hbm, ⟨1, _⟩ => ⟨S1024x1024, .f32⟩
  | .hbm, ⟨2, _⟩ => ⟨S1024x64, .bf16⟩
  | .local _ .vmem, ⟨0, _⟩ => ⟨S1024x64, .bf16⟩
  | .local _ .vmem, ⟨1, _⟩ => ⟨S64x1024, .f32⟩
  | .local _ .vmem, ⟨2, _⟩ => ⟨S1024x1024, .f32⟩
  | .local _ .vmem, ⟨3, _⟩ => ⟨S16x64x64, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 16 33 bufScoped semScoped dmaSemScoped tileCredit tileCredit_eq_zero tileCredit_pos).withBarriers [(0, 15)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 15

abbrev nD : Nat := 16
abbrev τ : Topo := Topo.v7x

variable {F : FTy → Type} [FloatOps F]

abbrev grid0 : Pipeline.Grid := .none

def k0_dev1 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.addi v2 c1_i32_1
  let c16_i32_2 : BitVec 32 := 16#32
  let v5 : BitVec 32 := Scalar.remsi v4 c16_i32_2
  let c1_i32_4 : BitVec 32 := 1#32
  let v8 : BitVec 32 := Scalar.muli v5 c1_i32_4
  let v9 : BitVec 32 := Scalar.addi c0_i32_5 v8
  v9.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 32 := Scalar.addi v2 c2_i32
  let c16_i32_6 : BitVec 32 := 16#32
  let v11 : BitVec 32 := Scalar.remsi v10 c16_i32_6
  let c1_i32_9 : BitVec 32 := 1#32
  let v14 : BitVec 32 := Scalar.muli v11 c1_i32_9
  let v15 : BitVec 32 := Scalar.addi c0_i32_10 v14
  v15.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v16 : BitVec 32 := Scalar.addi v2 c3_i32
  let c16_i32_11 : BitVec 32 := 16#32
  let v17 : BitVec 32 := Scalar.remsi v16 c16_i32_11
  let c1_i32_14 : BitVec 32 := 1#32
  let v20 : BitVec 32 := Scalar.muli v17 c1_i32_14
  let v21 : BitVec 32 := Scalar.addi c0_i32_15 v20
  v21.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v22 : BitVec 32 := Scalar.addi v2 c4_i32
  let c16_i32_16 : BitVec 32 := 16#32
  let v23 : BitVec 32 := Scalar.remsi v22 c16_i32_16
  let c1_i32_19 : BitVec 32 := 1#32
  let v26 : BitVec 32 := Scalar.muli v23 c1_i32_19
  let v27 : BitVec 32 := Scalar.addi c0_i32_20 v26
  v27.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v28 : BitVec 32 := Scalar.addi v2 c5_i32
  let c16_i32_21 : BitVec 32 := 16#32
  let v29 : BitVec 32 := Scalar.remsi v28 c16_i32_21
  let c1_i32_24 : BitVec 32 := 1#32
  let v32 : BitVec 32 := Scalar.muli v29 c1_i32_24
  let v33 : BitVec 32 := Scalar.addi c0_i32_25 v32
  v33.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v34 : BitVec 32 := Scalar.addi v2 c6_i32
  let c16_i32_26 : BitVec 32 := 16#32
  let v35 : BitVec 32 := Scalar.remsi v34 c16_i32_26
  let c1_i32_29 : BitVec 32 := 1#32
  let v38 : BitVec 32 := Scalar.muli v35 c1_i32_29
  let v39 : BitVec 32 := Scalar.addi c0_i32_30 v38
  v39.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v40 : BitVec 32 := Scalar.addi v2 c7_i32
  let c16_i32_31 : BitVec 32 := 16#32
  let v41 : BitVec 32 := Scalar.remsi v40 c16_i32_31
  let c1_i32_34 : BitVec 32 := 1#32
  let v44 : BitVec 32 := Scalar.muli v41 c1_i32_34
  let v45 : BitVec 32 := Scalar.addi c0_i32_35 v44
  v45.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v46 : BitVec 32 := Scalar.addi v2 c8_i32
  let c16_i32_36 : BitVec 32 := 16#32
  let v47 : BitVec 32 := Scalar.remsi v46 c16_i32_36
  let c1_i32_39 : BitVec 32 := 1#32
  let v50 : BitVec 32 := Scalar.muli v47 c1_i32_39
  let v51 : BitVec 32 := Scalar.addi c0_i32_40 v50
  v51.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v52 : BitVec 32 := Scalar.addi v2 c9_i32
  let c16_i32_41 : BitVec 32 := 16#32
  let v53 : BitVec 32 := Scalar.remsi v52 c16_i32_41
  let c1_i32_44 : BitVec 32 := 1#32
  let v56 : BitVec 32 := Scalar.muli v53 c1_i32_44
  let v57 : BitVec 32 := Scalar.addi c0_i32_45 v56
  v57.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v58 : BitVec 32 := Scalar.addi v2 c10_i32
  let c16_i32_46 : BitVec 32 := 16#32
  let v59 : BitVec 32 := Scalar.remsi v58 c16_i32_46
  let c1_i32_49 : BitVec 32 := 1#32
  let v62 : BitVec 32 := Scalar.muli v59 c1_i32_49
  let v63 : BitVec 32 := Scalar.addi c0_i32_50 v62
  v63.toNat
def k0_dev11 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v64 : BitVec 32 := Scalar.addi v2 c11_i32
  let c16_i32_51 : BitVec 32 := 16#32
  let v65 : BitVec 32 := Scalar.remsi v64 c16_i32_51
  let c1_i32_54 : BitVec 32 := 1#32
  let v68 : BitVec 32 := Scalar.muli v65 c1_i32_54
  let v69 : BitVec 32 := Scalar.addi c0_i32_55 v68
  v69.toNat
def k0_dev12 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v70 : BitVec 32 := Scalar.addi v2 c12_i32
  let c16_i32_56 : BitVec 32 := 16#32
  let v71 : BitVec 32 := Scalar.remsi v70 c16_i32_56
  let c1_i32_59 : BitVec 32 := 1#32
  let v74 : BitVec 32 := Scalar.muli v71 c1_i32_59
  let v75 : BitVec 32 := Scalar.addi c0_i32_60 v74
  v75.toNat
def k0_dev13 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v76 : BitVec 32 := Scalar.addi v2 c13_i32
  let c16_i32_61 : BitVec 32 := 16#32
  let v77 : BitVec 32 := Scalar.remsi v76 c16_i32_61
  let c1_i32_64 : BitVec 32 := 1#32
  let v80 : BitVec 32 := Scalar.muli v77 c1_i32_64
  let v81 : BitVec 32 := Scalar.addi c0_i32_65 v80
  v81.toNat
def k0_dev14 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v82 : BitVec 32 := Scalar.addi v2 c14_i32
  let c16_i32_66 : BitVec 32 := 16#32
  let v83 : BitVec 32 := Scalar.remsi v82 c16_i32_66
  let c1_i32_69 : BitVec 32 := 1#32
  let v86 : BitVec 32 := Scalar.muli v83 c1_i32_69
  let v87 : BitVec 32 := Scalar.addi c0_i32_70 v86
  v87.toNat
def k0_dev15 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v88 : BitVec 32 := Scalar.addi v2 c15_i32
  let c16_i32_71 : BitVec 32 := 16#32
  let v89 : BitVec 32 := Scalar.remsi v88 c16_i32_71
  let c1_i32_74 : BitVec 32 := 1#32
  let v92 : BitVec 32 := Scalar.muli v89 c1_i32_74
  let v93 : BitVec 32 := Scalar.addi c0_i32_75 v92
  v93.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v200 : Index := Scalar.indexCast v2
  let c0_120 : Index := 0#32
  let c0_121 : Index := 0#32
  ![v200.toNat, 0, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v203 : BitVec 32 := Scalar.muli v2 c64_i32
  let v204 : Index := Scalar.indexCast v203
  let c0_122 : Index := 0#32
  ![v204.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_129 : BitVec 32 := 64#32
  let v210 : BitVec 32 := Scalar.muli v2 c64_i32_129
  let c0_i32_134 : BitVec 32 := 0#32
  ![v210.toNat, 0]
def k0_off4 (d0 : Dev nD) (c1_i32_124 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v206 : BitVec 32 := Scalar.addi v2 c1_i32_124
  let c16_i32_125 : BitVec 32 := 16#32
  let v207 : BitVec 32 := Scalar.remsi v206 c16_i32_125
  let c0_i32_135 : BitVec 32 := 0#32
  let c0_i32_136 : BitVec 32 := 0#32
  ![v207.toNat, 0, 0]
def k0_dev16 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_124 : BitVec 32 := 1#32
  let v206 : BitVec 32 := Scalar.addi v2 c1_i32_124
  let c16_i32_125 : BitVec 32 := 16#32
  let v207 : BitVec 32 := Scalar.remsi v206 c16_i32_125
  let c1_i32_132 : BitVec 32 := 1#32
  let v211 : BitVec 32 := Scalar.muli v207 c1_i32_132
  let v212 : BitVec 32 := Scalar.addi c0_i32_133 v211
  v212.toNat
def k0_dev17 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_137 : BitVec 32 := 15#32
  let v220 : BitVec 32 := Scalar.addi v2 c15_i32_137
  let c16_i32_138 : BitVec 32 := 16#32
  let v221 : BitVec 32 := Scalar.remsi v220 c16_i32_138
  let c1_i32_145 : BitVec 32 := 1#32
  let v225 : BitVec 32 := Scalar.muli v221 c1_i32_145
  let v226 : BitVec 32 := Scalar.addi c0_i32_146 v225
  v226.toNat
def k0_dev18 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_150 : BitVec 32 := 2#32
  let v234 : BitVec 32 := Scalar.addi v2 c2_i32_150
  let c16_i32_151 : BitVec 32 := 16#32
  let v235 : BitVec 32 := Scalar.remsi v234 c16_i32_151
  let c1_i32_158 : BitVec 32 := 1#32
  let v239 : BitVec 32 := Scalar.muli v235 c1_i32_158
  let v240 : BitVec 32 := Scalar.addi c0_i32_159 v239
  v240.toNat
def k0_dev19 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_163 : BitVec 32 := 14#32
  let v248 : BitVec 32 := Scalar.addi v2 c14_i32_163
  let c16_i32_164 : BitVec 32 := 16#32
  let v249 : BitVec 32 := Scalar.remsi v248 c16_i32_164
  let c1_i32_171 : BitVec 32 := 1#32
  let v253 : BitVec 32 := Scalar.muli v249 c1_i32_171
  let v254 : BitVec 32 := Scalar.addi c0_i32_172 v253
  v254.toNat
def k0_dev20 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_176 : BitVec 32 := 3#32
  let v262 : BitVec 32 := Scalar.addi v2 c3_i32_176
  let c16_i32_177 : BitVec 32 := 16#32
  let v263 : BitVec 32 := Scalar.remsi v262 c16_i32_177
  let c1_i32_184 : BitVec 32 := 1#32
  let v267 : BitVec 32 := Scalar.muli v263 c1_i32_184
  let v268 : BitVec 32 := Scalar.addi c0_i32_185 v267
  v268.toNat
def k0_dev21 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_189 : BitVec 32 := 13#32
  let v276 : BitVec 32 := Scalar.addi v2 c13_i32_189
  let c16_i32_190 : BitVec 32 := 16#32
  let v277 : BitVec 32 := Scalar.remsi v276 c16_i32_190
  let c1_i32_197 : BitVec 32 := 1#32
  let v281 : BitVec 32 := Scalar.muli v277 c1_i32_197
  let v282 : BitVec 32 := Scalar.addi c0_i32_198 v281
  v282.toNat
def k0_dev22 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_202 : BitVec 32 := 4#32
  let v290 : BitVec 32 := Scalar.addi v2 c4_i32_202
  let c16_i32_203 : BitVec 32 := 16#32
  let v291 : BitVec 32 := Scalar.remsi v290 c16_i32_203
  let c1_i32_210 : BitVec 32 := 1#32
  let v295 : BitVec 32 := Scalar.muli v291 c1_i32_210
  let v296 : BitVec 32 := Scalar.addi c0_i32_211 v295
  v296.toNat
def k0_dev23 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_215 : BitVec 32 := 12#32
  let v304 : BitVec 32 := Scalar.addi v2 c12_i32_215
  let c16_i32_216 : BitVec 32 := 16#32
  let v305 : BitVec 32 := Scalar.remsi v304 c16_i32_216
  let c1_i32_223 : BitVec 32 := 1#32
  let v309 : BitVec 32 := Scalar.muli v305 c1_i32_223
  let v310 : BitVec 32 := Scalar.addi c0_i32_224 v309
  v310.toNat
def k0_dev24 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_228 : BitVec 32 := 5#32
  let v318 : BitVec 32 := Scalar.addi v2 c5_i32_228
  let c16_i32_229 : BitVec 32 := 16#32
  let v319 : BitVec 32 := Scalar.remsi v318 c16_i32_229
  let c1_i32_236 : BitVec 32 := 1#32
  let v323 : BitVec 32 := Scalar.muli v319 c1_i32_236
  let v324 : BitVec 32 := Scalar.addi c0_i32_237 v323
  v324.toNat
def k0_dev25 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_241 : BitVec 32 := 11#32
  let v332 : BitVec 32 := Scalar.addi v2 c11_i32_241
  let c16_i32_242 : BitVec 32 := 16#32
  let v333 : BitVec 32 := Scalar.remsi v332 c16_i32_242
  let c1_i32_249 : BitVec 32 := 1#32
  let v337 : BitVec 32 := Scalar.muli v333 c1_i32_249
  let v338 : BitVec 32 := Scalar.addi c0_i32_250 v337
  v338.toNat
def k0_dev26 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_254 : BitVec 32 := 6#32
  let v346 : BitVec 32 := Scalar.addi v2 c6_i32_254
  let c16_i32_255 : BitVec 32 := 16#32
  let v347 : BitVec 32 := Scalar.remsi v346 c16_i32_255
  let c1_i32_262 : BitVec 32 := 1#32
  let v351 : BitVec 32 := Scalar.muli v347 c1_i32_262
  let v352 : BitVec 32 := Scalar.addi c0_i32_263 v351
  v352.toNat
def k0_dev27 (d0 : Dev nD) : Nat :=
  let c0_i32_276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_267 : BitVec 32 := 10#32
  let v360 : BitVec 32 := Scalar.addi v2 c10_i32_267
  let c16_i32_268 : BitVec 32 := 16#32
  let v361 : BitVec 32 := Scalar.remsi v360 c16_i32_268
  let c1_i32_275 : BitVec 32 := 1#32
  let v365 : BitVec 32 := Scalar.muli v361 c1_i32_275
  let v366 : BitVec 32 := Scalar.addi c0_i32_276 v365
  v366.toNat
def k0_dev28 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_280 : BitVec 32 := 7#32
  let v374 : BitVec 32 := Scalar.addi v2 c7_i32_280
  let c16_i32_281 : BitVec 32 := 16#32
  let v375 : BitVec 32 := Scalar.remsi v374 c16_i32_281
  let c1_i32_288 : BitVec 32 := 1#32
  let v379 : BitVec 32 := Scalar.muli v375 c1_i32_288
  let v380 : BitVec 32 := Scalar.addi c0_i32_289 v379
  v380.toNat
def k0_dev29 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_293 : BitVec 32 := 9#32
  let v388 : BitVec 32 := Scalar.addi v2 c9_i32_293
  let c16_i32_294 : BitVec 32 := 16#32
  let v389 : BitVec 32 := Scalar.remsi v388 c16_i32_294
  let c1_i32_301 : BitVec 32 := 1#32
  let v393 : BitVec 32 := Scalar.muli v389 c1_i32_301
  let v394 : BitVec 32 := Scalar.addi c0_i32_302 v393
  v394.toNat
def k0_dev30 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_306 : BitVec 32 := 8#32
  let v402 : BitVec 32 := Scalar.addi v2 c8_i32_306
  let c16_i32_307 : BitVec 32 := 16#32
  let v403 : BitVec 32 := Scalar.remsi v402 c16_i32_307
  let c1_i32_314 : BitVec 32 := 1#32
  let v407 : BitVec 32 := Scalar.muli v403 c1_i32_314
  let v408 : BitVec 32 := Scalar.addi c0_i32_315 v407
  v408.toNat
def k0_off5 (d0 : Dev nD) (c1_i32_319 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v416 : BitVec 32 := Scalar.subi v2 c1_i32_319
  let c16_i32_320 : BitVec 32 := 16#32
  let v417 : BitVec 32 := Scalar.addi v416 c16_i32_320
  let c16_i32_321 : BitVec 32 := 16#32
  let v418 : BitVec 32 := Scalar.remsi v417 c16_i32_321
  let c64_i32_322 : BitVec 32 := 64#32
  let v419 : BitVec 32 := Scalar.muli v418 c64_i32_322
  let c0_i32_328 : BitVec 32 := 0#32
  ![v419.toNat, 0]
abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Schedule.lean ====
/-
The protocol of the kernel on the ring of sixteen devices: its semaphore cells, what each cell's units hand over, and
the contents the buffers hold.

Device `c` first tells every other device that its own row blocks of the output may be written (the "ready" semaphores),
copies its two operands into vector memory, computes sixteen slabs of the result, keeps one and sends one to every other
device. With offset `r + 1` it sends to device `c + r + 1`, once that device has said it is ready, and then awaits what
the others send to it and that its own sends have left.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Writes
public import Idealize.ShloMosaic.Lib.ViewIndex
public import Idealize.ShloMosaic.Lib.ValueIdxCore
public import Idealize.ShloMosaic.Lib.ValueIdxCoords
public import Idealize.ShloMosaic.Lib.ValueLayout

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## Ghost state: the pipeline's copy and the ring's, one duty a cell -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The devices, by offset -/

set_option backward.proofsInPublic true in
/-- The device at offset `r + 1` after `c`. -/
def fwd (c : Dev nD) (r : Fin 15) : Dev nD := ⟨(c.val + r.val + 1) % 16, Nat.mod_lt _ (by decide)⟩
set_option backward.proofsInPublic true in
/-- The device at offset `r + 1` before `c`. -/
def bwd (c : Dev nD) (r : Fin 15) : Dev nD := ⟨(c.val + 15 - r.val) % 16, Nat.mod_lt _ (by decide)⟩

/-- The number of the device forward of `c`; -/
theorem fwd_val (c : Dev nD) (r : Fin 15) : (fwd c r).val = (c.val + r.val + 1) % 16 := rfl
/-- of the device before it. -/
theorem bwd_val (c : Dev nD) (r : Fin 15) : (bwd c r).val = (c.val + 15 - r.val) % 16 := rfl

/-- There are sixteen devices. -/
theorem dev_lt (c : Dev nD) : c.val < 16 := c.isLt

/-- Forward and back again is where one started; -/
theorem bwd_fwd (c : Dev nD) (r : Fin 15) : bwd (fwd c r) r = c := by
  refine Fin.ext ?_
  have := dev_lt c; have := r.isLt
  rw [bwd_val, fwd_val]; omega
/-- and back and forward again. -/
theorem fwd_bwd (c : Dev nD) (r : Fin 15) : fwd (bwd c r) r = c := by
  refine Fin.ext ?_
  have := dev_lt c; have := r.isLt
  rw [fwd_val, bwd_val]; omega
/-- Going back `16 - (r + 1)` is going forward `r + 1`. -/
theorem bwd_rev (c : Dev nD) (r : Fin 15) : bwd c r.rev = fwd c r := by
  refine Fin.ext ?_
  have := dev_lt c; have := r.isLt
  rw [fwd_val, bwd_val, Fin.val_rev]; omega

/-- Going forward by one offset is a permutation of the devices. -/
def turn (r : Fin 15) : Dev nD ≃ Dev nD := ⟨fun c => fwd c r, fun c => bwd c r, fun c => bwd_fwd c r, fun c => fwd_bwd c r⟩

/-- The other devices, by offset: every device but `c`, once each. -/
theorem fwd_inj (c : Dev nD) : Function.Injective (fwd c) := by
  intro r r' h
  have h' := congrArg Fin.val h
  have := dev_lt c; have := r.isLt; have := r'.isLt
  rw [fwd_val, fwd_val] at h'
  exact Fin.ext (by omega)
/-- Different offsets reach different devices, backward too. -/
theorem bwd_inj (c : Dev nD) : Function.Injective (bwd c) := by
  intro r r' h
  have h' := congrArg Fin.val h
  have := dev_lt c; have := r.isLt; have := r'.isLt
  rw [bwd_val, bwd_val] at h'
  exact Fin.ext (by omega)
/-- No offset leads a device to itself, -/
theorem fwd_ne (c : Dev nD) (r : Fin 15) : fwd c r ≠ c := by
  intro h
  have h' := congrArg Fin.val h
  have := dev_lt c; have := r.isLt
  rw [fwd_val] at h'; omega
/-- in either direction. -/
theorem bwd_ne (c : Dev nD) (r : Fin 15) : bwd c r ≠ c := by
  intro h
  have h' := congrArg Fin.val h
  have := dev_lt c; have := r.isLt
  rw [bwd_val] at h'; omega

/-! ## Memrefs -/

abbrev xArg : Memref sig .tc .hbm S64x1024 .f32 := Memref.whole main_arg0
abbrev wArg : Memref sig .tc .hbm S1024x1024 .f32 := Memref.whole main_arg1
abbrev oM : Memref sig .tc .vmem S1024x64 .bf16 := Memref.whole cc0_stg0_0
abbrev xM : Memref sig .tc .vmem S64x1024 .f32 := Memref.whole cc0_scratch0
abbrev wM : Memref sig .tc .vmem S1024x1024 .f32 := Memref.whole cc0_scratch1
abbrev yM : Memref sig .tc .vmem S16x64x64 .bf16 := Memref.whole cc0_scratch2

/-- The 64 rows of the output from `o`, and one slab of the result buffer. -/
abbrev oSl (o : Fin 2 → Nat) (h : ∀ a, o a + S64x64.size a ≤ S1024x64.size a) : Memref sig .tc .vmem S64x64 .bf16 :=
  oM.slice (Rect.unit (s := S1024x64) o S64x64.size h) (fun _ => rfl)
abbrev ySl (o : Fin 3 → Nat) (h : ∀ a, o a + S1x64x64.size a ≤ S16x64x64.size a) : Memref sig .tc .vmem S64x64 .bf16 :=
  (yM.slice (Rect.unit (s := S16x64x64) o S1x64x64.size h) (fun _ => rfl)).squeeze S64x64 squeezes_S1x64x64_S64x64

/-- The credit of one 64 × 64 block of the output, and of one slab; -/
abbrev Nb : ℕ := sig.dmaCredit .tc (Kind.table .tc .vmem) (oM : Memref sig .tc .vmem S1024x64 .bf16).view.buf S64x64 .bf16
abbrev Nx : ℕ := (xM : Memref sig .tc .vmem S64x1024 .f32).view.dmaCredit
abbrev Nw : ℕ := (wM : Memref sig .tc .vmem S1024x1024 .f32).view.dmaCredit
/-- A block's credit is positive; -/
theorem Nb_pos : 0 < Nb := sig.dmaCredit_pos _ _ _ _ _ (by decide)
/-- so is the first operand's -/
theorem Nx_pos : 0 < Nx := View.dmaCredit_pos _ (by decide)
/-- and the second's. -/
theorem Nw_pos : 0 < Nw := View.dmaCredit_pos _ (by decide)

/-! ## Semaphores and cells -/

set_option backward.proofsInPublic true in
def rdyS (r : Fin 15) : Sem sig := ⟨r.val, by have := r.isLt; show r.val < 16; omega⟩
set_option backward.proofsInPublic true in
def barS : Sem sig := ⟨15, by decide⟩
set_option backward.proofsInPublic true in
def sndS (r : Fin 15) : DmaSem sig := ⟨3 + r.val, by have := r.isLt; show 3 + r.val < 33; omega⟩
set_option backward.proofsInPublic true in
def rcvS (r : Fin 15) : DmaSem sig := ⟨18 + r.val, by have := r.isLt; show 18 + r.val < 33; omega⟩
set_option backward.proofsInPublic true in
def cpxS : DmaSem sig := ⟨1, by decide⟩
set_option backward.proofsInPublic true in
def cpwS : DmaSem sig := ⟨2, by decide⟩

/-- The numbers of the ready, -/
theorem rdyS_val (r : Fin 15) : (rdyS r).val = r.val := rfl
/-- the send -/
theorem sndS_val (r : Fin 15) : (sndS r).val = 3 + r.val := rfl
/-- and the receive semaphores. -/
theorem rcvS_val (r : Fin 15) : (rcvS r).val = 18 + r.val := rfl

abbrev barCell (c : Dev nD) : GSem nD τ sig := ((c : Thread nD τ), .reg barS)
abbrev rdyCell (c : Dev nD) (r : Fin 15) : GSem nD τ sig := ((c : Thread nD τ), .reg (rdyS r))
abbrev sndCell (c : Dev nD) (r : Fin 15) : GSem nD τ sig := ((c : Thread nD τ), .dma (sndS r))
abbrev rcvCell (c : Dev nD) (r : Fin 15) : GSem nD τ sig := ((c : Thread nD τ), .dma (rcvS r))
abbrev cpxCell (c : Dev nD) : GSem nD τ sig := ((c : Thread nD τ), .dma cpxS)
abbrev cpwCell (c : Dev nD) : GSem nD τ sig := ((c : Thread nD τ), .dma cpwS)

/-! ## Contents -/

/-- The two operands of device `c` as launched. -/
abbrev xAt (c : Dev nD) : Vec F S64x1024 .f32 := m ((c : Thread nD τ).loc main_arg0)
abbrev wAt (c : Dev nD) : Vec F S1024x1024 .f32 := m ((c : Thread nD τ).loc main_arg1)

/-- What device `c` computes: the activation of its rows times the weights, before and after rounding. -/
def act (c : Dev nD) : FVec F S64x1024 .f32 :=
  k0_pay4 (k0_pay2 (xAt m c) (wAt m c)) (k0_pay3 (xAt m c) (wAt m c)) (Scalar.ofBits .f32 0x3F4C422A#32)
def actB (c : Dev nD) : FVec F S64x1024 .bf16 := truncf .bf16 (act m c) bitsLt_bf16_f32

/-- A slab's column is a column of the whole. -/
theorem col_lt (a b : Nat) (ha : a < 16) (hb : b < 64) : 64 * a + b < 1024 := by omega

set_option backward.proofsInPublic true in
/-- The slab buffer of device `c`: slab `j` holds columns `64 j` to `64 j + 63` of its result; -/
def ybAt (c : Dev nD) : (cc0_scratch2 : Ref sig .tc).ty.Contents (Elt F) :=
  fun (i : S16x64x64.Idx) => actB m c (ix2 (i 1) (⟨64 * (i 0).val + (i 2).val, col_lt _ _ (i 0).isLt (i 2).isLt⟩ : Fin 1024))

set_option backward.proofsInPublic true in
/-- and its output: row block `s` holds slab `c` of device `s`. -/
def outAt (c : Dev nD) : (cc0_stg0_0 : Ref sig .tc).ty.Contents (Elt F) :=
  fun (i : S1024x64.Idx) => ybAt m ⟨(i 0).val / 64, Nat.div_lt_of_lt_mul (i 0).isLt⟩
    (ix3 (c : Fin 16) (⟨(i 0).val % 64, Nat.mod_lt _ (by decide)⟩ : Fin 64) (i 1))

/-! ## The parts of the two buffers -/

/-- Slab `j` of the slab buffer; row block `j` of the output. -/
def ySet (j : Dev nD) : Finset S16x64x64.Idx := Finset.univ.filter fun i => (i 0).val = j.val
def oSet (j : Dev nD) : Finset S1024x64.Idx := Finset.univ.filter fun i => (i 0).val / 64 = j.val

/-- Different slabs are disjoint; -/
theorem ySet_disj (j j' : Dev nD) (h : j ≠ j') : Disjoint (ySet j) (ySet j') := by
  refine Finset.disjoint_left.mpr fun i hi hi' => h (Fin.ext ?_)
  rw [← (Finset.mem_filter.mp hi).2, ← (Finset.mem_filter.mp hi').2]
/-- so are different row blocks. -/
theorem oSet_disj (j j' : Dev nD) (h : j ≠ j') : Disjoint (oSet j) (oSet j') := by
  refine Finset.disjoint_left.mpr fun i hi hi' => h (Fin.ext ?_)
  rw [← (Finset.mem_filter.mp hi).2, ← (Finset.mem_filter.mp hi').2]
/-- The slabs are the whole slab buffer; -/
theorem ySet_cover : Finset.univ.biUnion ySet = Finset.univ := by
  refine Finset.eq_univ_iff_forall.mpr fun i => Finset.mem_biUnion.mpr ⟨(⟨(i 0).val, (i 0).isLt⟩ : Fin 16), Finset.mem_univ _, ?_⟩
  exact Finset.mem_filter.mpr ⟨Finset.mem_univ _, rfl⟩
/-- the row blocks the whole output. -/
theorem oSet_cover : Finset.univ.biUnion oSet = Finset.univ := by
  refine Finset.eq_univ_iff_forall.mpr fun i => Finset.mem_biUnion.mpr
    ⟨(⟨(i 0).val / 64, Nat.div_lt_of_lt_mul (i 0).isLt⟩ : Fin 16), Finset.mem_univ _, ?_⟩
  exact Finset.mem_filter.mpr ⟨Finset.mem_univ _, rfl⟩

/-- The rectangle of slab `j` is slab `j`; -/
theorem ySet_rect (j : Dev nD) (o : Fin 3 → Nat) (ho : o = ![j.val, 0, 0]) (h : ∀ a, o a + S1x64x64.size a ≤ S16x64x64.size a) :
    (Rect.unit (s := S16x64x64) o S1x64x64.size h).set = ySet j := by
  subst ho
  ext i
  rw [Rect.mem_set_unit, ySet, Finset.mem_filter]
  have h1 : (i 1).val < 64 := (i 1).isLt
  have h2 : (i 2).val < 64 := (i 2).isLt
  constructor
  · intro hi
    have := hi 0
    simp at this
    exact ⟨Finset.mem_univ _, by omega⟩
  · intro hi a
    have := hi.2
    match a with
    | ⟨0, _⟩ => exact ⟨by show j.val ≤ (i 0).val; omega, by show (i 0).val < j.val + 1; omega⟩
    | ⟨1, _⟩ => exact ⟨Nat.zero_le _, by show (i 1).val < 0 + 64; omega⟩
    | ⟨2, _⟩ => exact ⟨Nat.zero_le _, by show (i 2).val < 0 + 64; omega⟩

/-- the rectangle of the 64 rows from `64 j` is row block `j`. -/
theorem oSet_rect (j : Dev nD) (o : Fin 2 → Nat) (ho : o = ![64 * j.val, 0]) (h : ∀ a, o a + S64x64.size a ≤ S1024x64.size a) :
    (Rect.unit (s := S1024x64) o S64x64.size h).set = oSet j := by
  subst ho
  ext i
  rw [Rect.mem_set_unit, oSet, Finset.mem_filter]
  have h1 : (i 1).val < 64 := (i 1).isLt
  constructor
  · intro hi
    have h0 : 64 * j.val ≤ (i 0).val ∧ (i 0).val < 64 * j.val + 64 := hi 0
    exact ⟨Finset.mem_univ _, by omega⟩
  · intro hi a
    have := hi.2
    match a with
    | ⟨0, _⟩ => exact ⟨by show 64 * j.val ≤ (i 0).val; omega, by show (i 0).val < 64 * j.val + 64; omega⟩
    | ⟨1, _⟩ => exact ⟨Nat.zero_le _, by show (i 1).val < 0 + 64; omega⟩

/-- The views the transfers name cover exactly those parts. -/
theorem ySl_set (j : Dev nD) (o : Fin 3 → Nat) (ho : o = ![j.val, 0, 0]) (h : ∀ a, o a + S1x64x64.size a ≤ S16x64x64.size a) :
    (ySl o h).view.set = ySet j := by
  rw [← ySet_rect j o ho h]
  exact (View.set_reshape _ _).trans (View.set_slice_whole _ _)
/-- The same for a row block of the output. -/
theorem oSl_set (j : Dev nD) (o : Fin 2 → Nat) (ho : o = ![64 * j.val, 0]) (h : ∀ a, o a + S64x64.size a ≤ S1024x64.size a) :
    (oSl o h).view.set = oSet j := by
  rw [← oSet_rect j o ho h]
  exact View.set_slice_whole _ _

def yPts (c j : Dev nD) (f : Buf (Elt F) ((c : Thread nD τ).loc cc0_scratch2)) : sProp 𝕄 :=
  ((c : Thread nD τ).loc cc0_scratch2) ↦[ySet j]{fullShare} f
def oPts (c j : Dev nD) (f : Buf (Elt F) ((c : Thread nD τ).loc cc0_stg0_0)) : sProp 𝕄 :=
  ((c : Thread nD τ).loc cc0_stg0_0) ↦[oSet j]{fullShare} f
def xPts (c : Dev nD) (f : Buf (Elt F) ((c : Thread nD τ).loc cc0_scratch0)) : sProp 𝕄 :=
  ((c : Thread nD τ).loc cc0_scratch0) ↦{fullShare} f
def wPts (c : Dev nD) (f : Buf (Elt F) ((c : Thread nD τ).loc cc0_scratch1)) : sProp 𝕄 :=
  ((c : Thread nD τ).loc cc0_scratch1) ↦{fullShare} f
/-- The two operands at the contents they were launched at. -/
def xaPts (c : Dev nD) : sProp 𝕄 :=
  ((c : Thread nD τ).loc main_arg0) ↦{fullShare} m ((c : Thread nD τ).loc main_arg0)
def waPts (c : Dev nD) : sProp 𝕄 :=
  ((c : Thread nD τ).loc main_arg1) ↦{fullShare} m ((c : Thread nD τ).loc main_arg1)

instance yPts_storable (c j : Dev nD) (f) : BI.Storable (upEmb : UEmb _ 𝕄) (yPts (F := F) c j f) := by unfold yPts; infer_instance
instance oPts_storable (c j : Dev nD) (f) : BI.Storable (upEmb : UEmb _ 𝕄) (oPts (F := F) c j f) := by unfold oPts; infer_instance
instance xPts_storable (c : Dev nD) (f) : BI.Storable (upEmb : UEmb _ 𝕄) (xPts (F := F) c f) := by unfold xPts; infer_instance
instance wPts_storable (c : Dev nD) (f) : BI.Storable (upEmb : UEmb _ 𝕄) (wPts (F := F) c f) := by unfold wPts; infer_instance
instance xaPts_storable (c : Dev nD) : BI.Storable (upEmb : UEmb _ 𝕄) (xaPts (F := F) m c) := by unfold xaPts; infer_instance
instance waPts_storable (c : Dev nD) : BI.Storable (upEmb : UEmb _ 𝕄) (waPts (F := F) m c) := by unfold waPts; infer_instance

/-! ## The schedule: one round, one duty a cell -/

/-- What the ready unit `r` hands device `c`: row block `c` of the device at offset `r + 1` before it. -/
def rdyPay (c : Dev nD) (r : Fin 15) : sProp 𝕄 := iprop(∃ f, oPts (F := F) (bwd c r) c f)
/-- What a send's completion hands back: the slab. -/
def sndPay (c : Dev nD) (r : Fin 15) : sProp 𝕄 := yPts c (fwd c r) (ybAt m c)
/-- What an arrival hands over: the row block of the device it came from, holding what it sent. -/
def rcvPay (c : Dev nD) (r : Fin 15) : sProp 𝕄 := oPts c (bwd c r) (outAt m c)
/-- What the two local copies hand over: the scratch at the operand's contents, the operand back. -/
def cpxPay (c : Dev nD) : sProp 𝕄 := iprop(xPts c (xAt m c) ∗ xaPts m c)
def cpwPay (c : Dev nD) : sProp 𝕄 := iprop(wPts c (wAt m c) ∗ waPts m c)

/-- The cells of the ring's schedule: every regular semaphore, every DMA semaphore but the pipeline's own. -/
def isRing : SemLoc sig → Bool
  | .reg _ => true
  | .dma s => decide (1 ≤ s.val)

/-- The units a cell's duty contributes. -/
def units : SemLoc sig → ℕ
  | .reg _ => 1
  | .dma s => if s.val = 1 then Nx else if s.val = 2 then Nw else Nb

set_option backward.proofsInPublic true in
/-- What a cell's duty hands over. -/
def pay (c : Dev nD) : SemLoc sig → sProp 𝕄
  | .reg s => if h : s.val < 15 then rdyPay c ⟨s.val, h⟩ else iprop(emp)
  | .dma s =>
    if s.val = 1 then cpxPay m c else if s.val = 2 then cpwPay m c
    else if h : s.val - 3 < 15 then sndPay m c ⟨s.val - 3, h⟩
    else if h : s.val - 18 < 15 then rcvPay m c ⟨s.val - 18, h⟩ else iprop(emp)

/-- No cell's duty is of no units. -/
theorem units_pos (sm : SemLoc sig) : 0 < units sm := by
  cases sm with
  | reg s => exact Nat.one_pos
  | dma s =>
    unfold units
    dsimp only
    split
    · exact Nx_pos
    · split
      · exact Nw_pos
      · exact Nb_pos

def ringRd : Rounds.Schedule (GSem nD τ sig) Unit 𝕄 where
  duties g r := if r = 0 ∧ g.1.2 = .tc ∧ isRing g.2 = true then {()} else ∅
  unitless _ := False
  amount g _ _ := units g.2
  payload g _ _ := pay m g.1.1 g.2
  amount_pos g _ _ _ := units_pos g.2

instance ringRd_payload_storable (g : GSem nD τ sig) (r : ℕ) (d : Unit) :
    BI.Storable (upEmb : UEmb _ 𝕄) ((ringRd (F := F) m).payload g r d) := by
  show BI.Storable upEmb (pay m g.1.1 g.2)
  cases g.2 <;> unfold pay rdyPay cpxPay cpwPay sndPay rcvPay <;> dsimp only <;> (repeat' split) <;> infer_instance

section Sched
variable (c : Dev nD)

/-- A cell of the protocol has one duty in its first round, -/
theorem duties_ring (sm : SemLoc sig) (h : isRing sm = true) : (ringRd (F := F) m).duties ((c : Thread nD τ), sm) 0 = {()} := by
  dsimp only [ringRd]; exact if_pos ⟨rfl, rfl, h⟩
/-- which is a duty of it, -/
theorem duty_ring (sm : SemLoc sig) (h : isRing sm = true) : () ∈ (ringRd (F := F) m).duties ((c : Thread nD τ), sm) 0 := by
  rw [duties_ring m c sm h]; exact Finset.mem_singleton_self _
/-- and none later. -/
theorem duties_later (g : GSem nD τ sig) : ∀ r, 0 + 1 ≤ r → (ringRd (F := F) m).duties g r = ∅ :=
  fun r hr => by dsimp only [ringRd]; exact if_neg fun h => by omega
/-- The duty is of the cell's units -/
theorem amount_ring (g : GSem nD τ sig) : (ringRd (F := F) m).amount g 0 () = units g.2 := rfl
/-- and hands over the cell's payload; -/
theorem payload_ring (d : Dev nD) (sm : SemLoc sig) : (ringRd (F := F) m).payload ((d : Thread nD τ), sm) 0 () = pay m d sm := rfl
/-- its round expects those units. -/
theorem expect_ring (sm : SemLoc sig) (h : isRing sm = true) : (ringRd (F := F) m).expect ((c : Thread nD τ), sm) 0 = units sm := by
  unfold Schedule.expect Schedule.amountOf; rw [duties_ring m c sm h, Finset.sum_singleton]; rfl
/-- The rest of a cell's round, nothing of it taken: its one duty's payload. -/
theorem rest_ring (sm : SemLoc sig) (h : isRing sm = true) :
    bigSep ((ringRd (F := F) m).duties ((c : Thread nD τ), sm) 0 \ ∅) (fun d => (ringRd (F := F) m).payload ((c : Thread nD τ), sm) 0 d)
      = pay m c sm := by
  rw [Finset.sdiff_empty, duties_ring m c sm h, bigSep_singleton]; rfl

/-- The regular semaphores' cells are of the protocol; -/
theorem ring_reg (s : Sem sig) : isRing (.reg s) = true := rfl
/-- the sends', -/
theorem ring_snd (r : Fin 15) : isRing (.dma (sndS r)) = true := by
  refine decide_eq_true ?_; rw [sndS_val]; omega
/-- the arrivals', -/
theorem ring_rcv (r : Fin 15) : isRing (.dma (rcvS r)) = true := by
  refine decide_eq_true ?_; rw [rcvS_val]; omega
/-- the first copy's -/
theorem ring_cpx : isRing (.dma cpxS) = true := rfl
/-- and the second's too. -/
theorem ring_cpw : isRing (.dma cpwS) = true := rfl

/-- A regular semaphore is paid one unit; -/
theorem units_reg (s : Sem sig) : units (.reg s) = 1 := rfl
/-- a send a block's credit, -/
theorem units_snd (r : Fin 15) : units (.dma (sndS r)) = Nb := by
  dsimp only [units]; rw [if_neg (by rw [sndS_val]; omega), if_neg (by rw [sndS_val]; omega)]
/-- an arrival too, -/
theorem units_rcv (r : Fin 15) : units (.dma (rcvS r)) = Nb := by
  dsimp only [units]; rw [if_neg (by rw [rcvS_val]; omega), if_neg (by rw [rcvS_val]; omega)]
/-- the first copy its operand's -/
theorem units_cpx : units (.dma cpxS) = Nx := rfl
/-- and the second its own. -/
theorem units_cpw : units (.dma cpwS) = Nw := rfl

/-- The barrier hands over nothing; -/
theorem pay_bar : pay m c (.reg barS) = iprop(emp) := by
  dsimp only [pay]; exact dif_neg (by decide)
/-- a ready unit the row block it is about; -/
theorem pay_rdy (r : Fin 15) : pay m c (.reg (rdyS r)) = rdyPay c r := by
  dsimp only [pay]; exact dif_pos r.isLt
/-- the first copy its operand at both places; -/
theorem pay_cpx : pay m c (.dma cpxS) = cpxPay m c := by
  dsimp only [pay]; exact if_pos rfl
/-- so does the second; -/
theorem pay_cpw : pay m c (.dma cpwS) = cpwPay m c := by
  dsimp only [pay]; exact (if_neg (by decide)).trans (if_pos rfl)
/-- a send its slab back; -/
theorem pay_snd (r : Fin 15) : pay m c (.dma (sndS r)) = sndPay m c r := by
  have := r.isLt
  dsimp only [pay]
  rw [if_neg (by rw [sndS_val]; omega), if_neg (by rw [sndS_val]; omega), dif_pos (by rw [sndS_val]; omega)]
  exact congrArg _ (Fin.ext (by show 3 + r.val - 3 = r.val; omega))
/-- an arrival the row block with the sender's slab in it. -/
theorem pay_rcv (r : Fin 15) : pay m c (.dma (rcvS r)) = rcvPay m c r := by
  have := r.isLt
  dsimp only [pay]
  rw [if_neg (by rw [rcvS_val]; omega), if_neg (by rw [rcvS_val]; omega), dif_neg (by rw [rcvS_val]; omega), dif_pos (by rw [rcvS_val]; omega)]
  exact congrArg _ (Fin.ext (by show 18 + r.val - 18 = r.val; omega))

end Sched

/-! ## What each device owes; the levels -/

/-- The arrivals device `c` still owes, for the offsets `A`, and the ready units. -/
def owedRcv (c : Dev nD) (A : Finset (Fin 15)) : CellTallies nD τ sig Unit := ∑ r ∈ A, tallyAt (rcvCell (fwd c r) r) () Nb
def owedRdy (c : Dev nD) (A : Finset (Fin 15)) : CellTallies nD τ sig Unit := ∑ r ∈ A, tallyAt (rdyCell (fwd c r) r) () 1
/-- All a device owes at launch: every arrival, every ready unit, and one unit of its own barrier cell. -/
def O₀ (c : Dev nD) : CellTallies nD τ sig Unit :=
  owedRcv c Finset.univ + owedRdy c Finset.univ + tallyAt (barCell c) () 1

/-- One arrival taken out of what is owed; -/
theorem owedRcv_peel (c : Dev nD) (D : Finset (Fin 15)) (r : Fin 15) (h : r ∉ D) :
    owedRcv c Dᶜ = owedRcv c (insert r D)ᶜ + tallyAt (rcvCell (fwd c r) r) () Nb := by
  unfold owedRcv
  rw [Finset.compl_insert]
  exact (Finset.sum_erase_add _ _ (Finset.mem_compl.mpr h)).symm
/-- one ready unit likewise. -/
theorem owedRdy_peel (c : Dev nD) (D : Finset (Fin 15)) (r : Fin 15) (h : r ∉ D) :
    owedRdy c Dᶜ = owedRdy c (insert r D)ᶜ + tallyAt (rdyCell (fwd c r) r) () 1 := by
  unfold owedRdy
  rw [Finset.compl_insert]
  exact (Finset.sum_erase_add _ _ (Finset.mem_compl.mpr h)).symm
/-- With no offset left no arrival is owed -/
theorem owedRcv_empty (c : Dev nD) : owedRcv c ∅ = 0 := Finset.sum_empty
/-- and no ready unit. -/
theorem owedRdy_empty (c : Dev nD) : owedRdy c ∅ = 0 := Finset.sum_empty

def L (g : GSem nD τ sig) : Finset Unit := if g.1.2 = .tc then {()} else ∅
/-- Regular semaphores at 1, arrivals at 2, everything else (copies, sends, the pipeline's own) at 0. -/
def lvS : SemLoc sig → ℕ
  | .reg _ => 1
  | .dma s => if 18 ≤ s.val then 2 else 0
def lv (g : GSem nD τ sig) (_ : Unit) : ℕ := lvS g.2

/-- Only the TensorCores' cells have a level; -/
theorem L_of_ne (g : GSem nD τ sig) (h : g.1.2 ≠ .tc) : L g = ∅ := if_neg h
/-- each of them has one. -/
theorem L_tc (c : Dev nD) (sm : SemLoc sig) : L ((c : Thread nD τ), sm) = {()} := if_pos rfl
/-- An arrival is at the highest level. -/
theorem lv_rcv (c : Dev nD) (r : Fin 15) (u : Unit) : lv (rcvCell c r) u = 2 := by
  dsimp only [lv, lvS]; exact if_pos (by rw [rcvS_val]; omega)

/-- What is owed of a sum of tallies is owed of one of them. -/
theorem sum_tally_pos {A : Finset (Fin 15)} {cell : Fin 15 → GSem nD τ sig} {k : ℕ} {g : GSem nD τ sig} {u : Unit}
    (h : 0 < (∑ r ∈ A, tallyAt (cell r) () k : CellTallies nD τ sig Unit) g u) : ∃ r, g = cell r := by
  rw [Finset.sum_apply, Finsupp.finset_sum_apply] at h
  obtain ⟨r, _, hr⟩ := Finset.exists_ne_zero_of_sum_ne_zero (Nat.pos_iff_ne_zero.mp h)
  rw [tallyAt_apply] at hr
  refine ⟨r, ?_⟩
  by_contra hn
  exact hr (if_neg fun h' => hn h'.1)

/-- What is owed of the arrivals is owed of one of them; -/
theorem owedRcv_pos {c : Dev nD} {A : Finset (Fin 15)} {g : GSem nD τ sig} {u : Unit} (h : 0 < owedRcv c A g u) :
    ∃ r, g = rcvCell (fwd c r) r := sum_tally_pos h

/-- and what is owed at launch is an arrival or a regular unit. -/
theorem O₀_pos {c : Dev nD} {g : GSem nD τ sig} {u : Unit} (h : 0 < O₀ c g u) :
    (∃ r, g = rcvCell (fwd c r) r) ∨ ∃ (d : Dev nD) (s : Sem sig), g = ((d : Thread nD τ), SemLoc.reg s) := by
  unfold O₀ at h
  rw [Pi.add_apply, Finsupp.add_apply, Pi.add_apply, Finsupp.add_apply] at h
  by_cases h1 : 0 < owedRcv c Finset.univ g u
  · exact .inl (owedRcv_pos h1)
  by_cases h2 : 0 < owedRdy c Finset.univ g u
  · obtain ⟨r, e⟩ := sum_tally_pos h2
    exact .inr ⟨_, _, e⟩
  · have h3 : 0 < (tallyAt (barCell c) () 1 : CellTallies nD τ sig Unit) g u := by omega
    rw [tallyAt_apply] at h3
    by_cases hg : g = barCell c ∧ u = ()
    · exact .inr ⟨_, _, hg.1⟩
    · rw [if_neg hg] at h3; exact absurd h3 (Nat.lt_irrefl 0)

/-- A device that owes arrivals only may wait at any cell below them. -/
theorem mayWait_below (c : Dev nD) (sm : SemLoc sig) (h : lvS sm < 2) (A : Finset (Fin 15)) :
    (levAts L lv : sProp 𝕄) ⊢ MayWait (c : Thread nD τ) sm () (owedRcv c A) :=
  MayOwe.of_cut (L := L) (lev := lv) (lvS sm) (fun p hp => by rw [Finset.mem_singleton.mp hp, L_tc]; exact Finset.mem_singleton_self _)
    (fun g u hg => by obtain ⟨r, rfl⟩ := owedRcv_pos hg; rw [L_tc]; exact Finset.mem_singleton_self _)
    (fun p hp => by rw [Finset.mem_singleton.mp hp]; exact le_of_eq rfl)
    (fun g u hg => by obtain ⟨r, rfl⟩ := owedRcv_pos hg; rw [lv_rcv]; exact h)

/-- The pipeline's own semaphore may be awaited whatever the device still owes of what it owes at launch. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨d, s, rfl⟩ <;> exact Finset.mem_singleton_self _)
      (fun p hp => by rw [Finset.mem_singleton.mp hp]; dsimp only [lv, lvS]; rw [if_neg (by omega)])
      (fun g u hg => by
        rcases O₀_pos hg with ⟨r, rfl⟩ | ⟨d, s, rfl⟩
        · rw [lv_rcv]; decide
        · dsimp only [lv, lvS]; decide)
  · rw [MayWait_zero]; iintro -; iempintro

end Cert.RingProof

end
-- ==== Proof.Steps.lean ====
/-
One rule per kind of operation of the kernel, each stated on a whole phase: which of a phase's fifteen (or sixteen) steps
are done is a set, and a step moves one index into it. The body's proof is then the sequence of these.
-/
module

public import proofs.«01_k».proof.Proof.Schedule

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## The cells of a device, by kind and offset -/

/-- The ready, send and receive cells by offset, and the barrier's, the operand copies'. -/
abbrev CI : Type := Fin 15 ⊕ Fin 15 ⊕ Fin 15 ⊕ Fin 3

/-- The cell's semaphore. -/
def csem : CI → SemLoc sig
  | .inl r => .reg (rdyS r)
  | .inr (.inl r) => .dma (sndS r)
  | .inr (.inr (.inl r)) => .dma (rcvS r)
  | .inr (.inr (.inr 0)) => .reg barS
  | .inr (.inr (.inr 1)) => .dma cpxS
  | .inr (.inr (.inr 2)) => .dma cpwS

abbrev iRdy (r : Fin 15) : CI := .inl r
abbrev iSnd (r : Fin 15) : CI := .inr (.inl r)
abbrev iRcv (r : Fin 15) : CI := .inr (.inr (.inl r))
abbrev iBar : CI := .inr (.inr (.inr 0))
abbrev iCpx : CI := .inr (.inr (.inr 1))
abbrev iCpw : CI := .inr (.inr (.inr 2))

abbrev kcell (ck : Dev nD × CI) : GSem nD τ sig := ((ck.1 : Thread nD τ), csem ck.2)

/-- Every cell listed is one of the schedule's. -/
theorem ring_csem (k : CI) : isRing (csem k) = true := by
  match k with
  | .inl r => rfl
  | .inr (.inl r) => exact ring_snd r
  | .inr (.inr (.inl r)) => exact ring_rcv r
  | .inr (.inr (.inr 0)) => rfl
  | .inr (.inr (.inr 1)) => rfl
  | .inr (.inr (.inr 2)) => rfl

/-- The invariants of all cells of all devices under the names `K`, and that each has reached its round. -/
def records (K : Dev nD × CI → ℕ) : sProp 𝕄 :=
  iprop((bigSep Finset.univ fun ck : Dev nD × CI => cellInv ER (ringRd m) (K ck) (kcell ck))
    ∗ bigSep Finset.univ fun ck : Dev nD × CI => reached ER (kcell ck) 0)

instance records_persistent (K : Dev nD × CI → ℕ) : BI.Persistent (records m K) := by unfold records; infer_instance

/-- One invariant of the family; -/
theorem inv_pick (K : Dev nD × CI → ℕ) (ck : Dev nD × CI) :
    (bigSep Finset.univ fun ck : Dev nD × CI => (cellInv ER (ringRd m) (K ck) (kcell ck) : sProp 𝕄)) ⊢ cellInv ER (ringRd m) (K ck) (kcell ck) :=
  bigSep_elim (Finset.mem_univ ck)
/-- one cell's round of the family. -/
theorem reached_pick (ck : Dev nD × CI) :
    (bigSep Finset.univ fun ck : Dev nD × CI => (reached ER (kcell ck) 0 : sProp 𝕄)) ⊢ reached ER (kcell ck) 0 :=
  bigSep_elim (Finset.mem_univ ck)
/-- Any one cell's invariant is among the records; -/
theorem inv_at (K : Dev nD × CI → ℕ) (c : Dev nD) (k : CI) :
    records m K ⊢ cellInv ER (ringRd m) (K (c, k)) ((c : Thread nD τ), csem k) := by
  unfold records
  iintro ⟨H, -⟩
  iapply (inv_pick m K (c, k)); iexact H
/-- and that it has reached its round. -/
theorem reached_at (K : Dev nD × CI → ℕ) (c : Dev nD) (k : CI) :
    records m K ⊢ reached ER ((c : Thread nD τ), csem k) 0 := by
  unfold records
  iintro ⟨-, H⟩
  iapply (reached_pick (c, k)); iexact H

/-- What device `c` owes, whatever waits are recorded for it. -/
def Ow (c : Dev nD) (O : CellTallies nD τ sig Unit) : sProp 𝕄 := iprop(∃ W : Waits sig Unit, owes (c : Thread nD τ) O W)

/-! ## Phases -/

section Phase
variable {I : Type} [Fintype I] [DecidableEq I]

/-- What the steps not done still hold, and what the done ones left. -/
def phase (A B : I → sProp 𝕄) (D : Finset I) : sProp 𝕄 := iprop(bigSep Dᶜ A ∗ bigSep D B)

/-- Before any step a phase is what its steps need; -/
theorem phase_zero (A B : I → sProp 𝕄) : bigSep Finset.univ A ⊢ phase A B ∅ := by
  unfold phase
  rw [Finset.compl_empty, BI.bigSep_empty]
  iintro H
  isplitl; · iexact H
  iempintro
/-- after all of them it is what they leave. -/
theorem phase_full (A B : I → sProp 𝕄) : phase A B Finset.univ ⊢ bigSep Finset.univ B := by
  unfold phase
  iintro ⟨-, H⟩; iexact H
/-- A step not done is taken out of its phase, and put back done. -/
theorem phase_take (A B : I → sProp 𝕄) (D D' : Finset I) (r : I) (hr : r ∉ D) (hD : insert r D = D') :
    phase A B D ⊢ iprop(A r ∗ (B r -∗ phase A B D')) := by
  subst hD
  unfold phase
  have h1 : (bigSep Dᶜ A : sProp 𝕄) = iprop(A r ∗ bigSep (insert r D)ᶜ A) := by
    rw [Finset.compl_insert]; exact BI.bigSep_erase (Finset.mem_compl.mpr hr)
  have h2 : (bigSep (insert r D) B : sProp 𝕄) = iprop(B r ∗ bigSep D B) := BI.bigSep_insert hr
  rw [h1, h2]
  iintro ⟨⟨HA, HP⟩, HD⟩
  isplitl [HA]; · iexact HA
  iintro HB
  isplitl [HP]; · iexact HP
  isplitl [HB]; · iexact HB
  iexact HD
end Phase

/-! ## The rules -/

section Rules
variable (K : Dev nD × CI → ℕ) (c : Dev nD)

/-- A wait for all of one cell's round: what the round hands over, and the cell closed at zero. -/
theorem step_wait (k : CI) {w : TpuEff nD τ sig (Elt F) Λ₀ .tc PUnit} {k' : ℕ}
    (hw : ∀ X : PUnit → sProp 𝕄, wpE (defs₀ (F := F)) 𝒱₀ (c : Thread nD τ) none Set.univ w X = waitSpec (c : Thread nD τ) Set.univ (csem k) k' X)
    (hk : k' = units (csem k)) (O : CellTallies nD τ sig Unit)
    (hO : (levAts L lv : sProp 𝕄) ⊢ MayWait (c : Thread nD τ) (csem k) () O)
    {α : Type} {Q : α → sProp 𝕄} {kt : PUnit → Prog (TpuEff nD τ sig (Elt F) Λ₀ .tc) α} :
    iprop(records m K ∗ levAts L lv ∗ Ow c O ∗ cred (tallyAt ((c : Thread nD τ), csem k) () (units (csem k))) ∗ atPos ER ((c : Thread nD τ), csem k) 0 ∅ 0)
      ⊢ iprop(((Ow c O ∗ semVal ((c : Thread nD τ), csem k) 0 ∗ pay m c (csem k))
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  subst hk
  iintro ⟨#HK, #Hlev, Ho, Hc, Hat⟩ Hk
  unfold Ow
  icases Ho with ⟨%W, HO⟩
  ihave #HI := (inv_at m K c k) $$ HK
  iapply (Rounds.wp_wait_rest_token 𝒱₀ ER (ringRd m) (c : Thread nD τ) none (κ := K (c, k)) hw (Set.mem_univ _) () (O := O) (W := W)
    (R := 0) (m := 0) (T := ∅) (by rw [Nat.zero_add, expect_ring m c _ (ring_csem k)])) $$ [Hc HO Hat]
  · isplitr; · iexact HI
    isplitl [Hc]; · iexact Hc
    isplitl [HO]; · iexact HO
    isplitr; · iapply hO; iexact Hlev
    iexact Hat
  iintro ⟨HO, Hat, -, Hpay⟩
  ihave Hp := (Entails.of_eq (rest_ring m c _ (ring_csem k))) $$ Hpay
  imod (Rounds.cell_close ER (ringRd m) (Set.mem_univ (K (c, k))) (fun h => h) (R := 0 + 1) (duties_later m ((c : Thread nD τ), csem k))) $$ [Hat] with Hz
  · isplitr; · iexact HI
    iexact Hat
  iapply Hk
  isplitl [HO]; · iexists _; iexact HO
  isplitl [Hz]; · iexact Hz
  iexact Hp

/-! ### The signals -/

/-- Before its own barrier unit. -/
def S0 : sProp 𝕄 :=
  iprop(records m K ∗ Ow c (O₀ c) ∗ dutyTok ER (barCell c) 0 ()
    ∗ phase (fun r => iprop(dutyTok ER (rdyCell (fwd c r) r) 0 () ∗ ∃ f, oPts (F := F) c (fwd c r) f)) (fun _ => iprop(emp)) ∅)
/-- The ready units of the offsets `D` paid. -/
def S1 (D : Finset (Fin 15)) : sProp 𝕄 :=
  iprop(records m K ∗ Ow c (owedRcv c Finset.univ + owedRdy c Dᶜ)
    ∗ phase (fun r => iprop(dutyTok ER (rdyCell (fwd c r) r) 0 () ∗ ∃ f, oPts (F := F) c (fwd c r) f)) (fun _ => iprop(emp)) D)

/-- The barrier unit, to itself. -/
theorem step_bar (s : Sem sig) (hs : s = barS) (n : ℤ) (hn : n = ((1 : ℕ) : ℤ))
    {α : Type} {Q : α → sProp 𝕄} {kt : PUnit → Prog (TpuEff nD τ sig (Elt F) Λ₀ .tc) α} :
    S0 m K c ⊢ iprop((S1 m K c ∅ -∗ wp frame (wpE (defs₀ (F := F)) 𝒱₀ (c : Thread nD τ) none) Set.univ (kt ⟨⟩) Q)
      -∗ wp frame (wpE (defs₀ (F := F)) 𝒱₀ (c : Thread nD τ) none) Set.univ (.op (.semSignal (c : Thread nD τ) s n) kt) Q) := by
  subst hs; subst hn
  unfold S0 S1
  iintro ⟨#HK, Ho, Ht, Hph⟩ Hk
  unfold Ow
  icases Ho with ⟨%W, HO⟩
  iapply (Rounds.wp_signal 𝒱₀ ER (ringRd m) (c : Thread nD τ) none (dst := (c : Thread nD τ)) (κ := K (c, iBar)) (r := 0)
      (d := ()) (duty_ring m c _ (ring_csem iBar)) (amount_ring m _) () (owedRcv c Finset.univ + owedRdy c Finset.univ) rfl)
    $$ [HO Ht]
  · isplitr; · iapply (inv_at m K c iBar); iexact HK
    isplitl [HO]; · iexact HO
    isplitl [Ht]; · iexact Ht
    isplitr; · rw [payload_ring, pay_bar]; iempintro
    iapply (reached_at m K c iBar); iexact HK
  iintro HO
  iapply Hk
  isplitr; · iexact HK
  isplitl [HO]; · iexists W; rw [Finset.compl_empty]; iexact HO
  iexact Hph

/-- The ready unit of offset `r + 1`: the row blocks of that device in this one's output go with it. -/
theorem step_signal (r : Fin 15) (D D' : Finset (Fin 15)) (hr : r ∉ D) (hD : insert r D = D')
    (d : Dev nD) (hd : d = fwd c r) (s : Sem sig) (hs : s = rdyS r) (n : ℤ) (hn : n = ((1 : ℕ) : ℤ))
    {α : Type} {Q : α → sProp 𝕄} {kt : PUnit → Prog (TpuEff nD τ sig (Elt F) Λ₀ .tc) α} :
    S1 m K c D ⊢ iprop((S1 m K c D' -∗ wp frame (wpE (defs₀ (F := F)) 𝒱₀ (c : Thread nD τ) none) Set.univ (kt ⟨⟩) Q)
      -∗ wp frame (wpE (defs₀ (F := F)) 𝒱₀ (c : Thread nD τ) none) Set.univ (.op (.semSignal (d : Thread nD τ) s n) kt) Q) := by
  subst hd; subst hs; subst hn
  unfold S1
  iintro ⟨#HK, Ho, Hph⟩ Hk
  unfold Ow
  icases Ho with ⟨%W, HO⟩
  ihave Hph := (phase_take _ _ D D' r hr hD) $$ Hph
  icases Hph with ⟨⟨Ht, Hp⟩, Hback⟩
  subst hD
  iapply (Rounds.wp_signal 𝒱₀ ER (ringRd m) (c : Thread nD τ) none (dst := (fwd c r : Thread nD τ)) (κ := K (fwd c r, iRdy r)) (r := 0)
      (d := ()) (duty_ring m (fwd c r) _ (ring_csem (iRdy r))) (amount_ring m _) () (owedRcv c Finset.univ + owedRdy c (insert r D)ᶜ)
      (O₀ := owedRcv c Finset.univ + owedRdy c Dᶜ) (by rw [owedRdy_peel c D r hr, add_assoc]; rfl))
    $$ [HO Ht Hp]
  · isplitr; · iapply (inv_at m K (fwd c r) (iRdy r)); iexact HK
    isplitl [HO]; · iexact HO
    isplitl [Ht]; · iexact Ht
    isplitl [Hp]
    · rw [payload_ring, pay_rdy]
      unfold rdyPay
      rw [bwd_fwd]
      iexact Hp
    iapply (reached_at m K (fwd c r) (iRdy r)); iexact HK
  iintro HO
  iapply Hk
  isplitr; · iexact HK
  isplitl [HO]; · iexists W; iexact HO
  iapply Hback
  iempintro

end Rules

end Cert.RingProof

end
-- ==== Proof.Contents.lean ====
/-
What the stores and the transfers leave in the slab buffer and the output, part by part.
-/
module

public import proofs.«01_k».proof.Proof.Schedule

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

variable (m : (ℓ : Loc nD τ sig) → Buf (Elt F) ℓ)

/-- The rectangle of slab `j` puts its element `x` at slab `j`; -/
theorem emb_y (j : Dev nD) (o : Fin 3 → Nat) (ho : o = ![j.val, 0, 0]) (h : ∀ a, o a + S1x64x64.size a ≤ S16x64x64.size a) (x : S1x64x64.Idx) :
    (Rect.unit (s := S16x64x64) o S1x64x64.size h).emb x = ix3 (j : Fin 16) (x 1 : Fin 64) (x 2 : Fin 64) := by
  subst ho
  have h0 : (x 0).val < 1 := (x 0).isLt
  refine Shape.idx3_ext ?_ ?_ ?_
  · show j.val + 1 * (x 0).val = j.val; omega
  · show 0 + 1 * (x 1).val = (x 1).val; omega
  · show 0 + 1 * (x 2).val = (x 2).val; omega
/-- the rectangle of row block `j` puts its element `x` at row `64 j` onwards. -/
theorem emb_o (j : Dev nD) (o : Fin 2 → Nat) (ho : o = ![64 * j.val, 0]) (h : ∀ a, o a + S64x64.size a ≤ S1024x64.size a) (x : S64x64.Idx) :
    ((Rect.unit (s := S1024x64) o S64x64.size h).emb x 0).val = 64 * j.val + (x 0).val
      ∧ ((Rect.unit (s := S1024x64) o S64x64.size h).emb x 1).val = (x 1).val := by
  subst ho
  constructor
  · show 64 * j.val + 1 * (x 0).val = _; omega
  · show 0 + 1 * (x 1).val = _; omega

/-- An element of row block `j` of the output of `c`, in terms of the slabs. -/
theorem outAt_block (c j : Dev nD) (i : S1024x64.Idx) (x : S64x64.Idx) (h0 : (i 0).val = 64 * j.val + (x 0).val) (h1 : (i 1).val = (x 1).val) :
    outAt m c i = ybAt m j (ix3 (c : Fin 16) (x 0 : Fin 64) (x 1 : Fin 64)) := by
  have hx : (x 0).val < 64 := (x 0).isLt
  have e1 : (⟨(i 0).val / 64, Nat.div_lt_of_lt_mul (i 0).isLt⟩ : Dev nD) = j := Fin.ext (by show (i 0).val / 64 = j.val; omega)
  have e2 : (⟨(i 0).val % 64, Nat.mod_lt _ (by decide)⟩ : Fin 64) = x 0 := Fin.ext (by show (i 0).val % 64 = (x 0).val; omega)
  have e3 : (i 1 : Fin 64) = x 1 := Fin.ext h1
  unfold outAt
  dsimp only
  rw [e1, e2, e3]

/-- Storing slab `j`'s payload leaves slab `j` as `ybAt` has it. -/
theorem write_slab (c j : Dev nD) (o : Fin 3 → Nat) (ho : o = ![j.val, 0, 0]) (h : ∀ a, o a + S1x64x64.size a ≤ S16x64x64.size a)
    (f : (cc0_scratch2 : Ref sig .tc).ty.Contents (Elt F)) (w : FVec F S1x64x64 .bf16)
    (hw : ∀ x : S1x64x64.Idx, w x = ybAt m c (ix3 (j : Fin 16) (x 1 : Fin 64) (x 2 : Fin 64))) :
    ∀ i ∈ ySet j, ((yM : Memref sig .tc .vmem S16x64x64 .bf16).access (Rect.unit (s := S16x64x64) o S1x64x64.size h)).write (Elt F) f w Finset.univ i
      = ybAt m c i := by
  intro i hi
  have hi' : i ∈ ((yM : Memref sig .tc .vmem S16x64x64 .bf16).access (Rect.unit (s := S16x64x64) o S1x64x64.size h)).set := by
    rw [← ySet_rect j o ho h] at hi
    exact (Finset.ext_iff.mp (View.set_slice_whole cc0_scratch2 _) i).mpr hi
  obtain ⟨x, -, rfl⟩ := Finset.mem_map.mp hi'
  rw [View.write_emb_of_mem _ _ (Finset.mem_univ _)]
  show w x = ybAt m c ((Rect.unit (s := S16x64x64) o S1x64x64.size h).emb x)
  rw [emb_y j o ho h x]; exact hw x

/-- The rows a transfer of slab `c` of device `s` leaves in row block `s` of device `c`'s output. -/
theorem land_block (c s : Dev nD) (o : Fin 2 → Nat) (ho : o = ![64 * s.val, 0]) (h : ∀ a, o a + S64x64.size a ≤ S1024x64.size a)
    (o' : Fin 3 → Nat) (ho' : o' = ![c.val, 0, 0]) (h' : ∀ a, o' a + S1x64x64.size a ≤ S16x64x64.size a)
    (f : (cc0_stg0_0 : Ref sig .tc).ty.Contents (Elt F)) :
    ∀ i ∈ oSet s, (oSl o h).view.write (Elt F) f ((ySl o' h').view.read (Elt F) (ybAt m s)) Finset.univ i = outAt m c i := by
  intro i hi
  rw [← oSl_set s o ho h] at hi
  obtain ⟨x, -, rfl⟩ := Finset.mem_map.mp hi
  rw [View.write_emb_of_mem _ _ (Finset.mem_univ _)]
  have e := emb_o s o ho h x
  refine Eq.trans ?_ (outAt_block m c s _ x e.1 e.2).symm
  show ybAt m s ((Rect.unit (s := S16x64x64) o' S1x64x64.size h').emb (Shape.reshapeEquiv squeezes_S1x64x64_S64x64.numel_eq x)) = _
  rw [emb_y c o' ho' h']
  have hx : Shape.reshapeEquiv squeezes_S1x64x64_S64x64.numel_eq x = ix3 (⟨0, Nat.one_pos⟩ : Fin 1) (x 0 : Fin 64) (x 1 : Fin 64) := by
    conv_lhs => rw [Idealize.ShloMosaic.ValueIdx.eq_ix2 x]
    exact Idealize.ShloMosaic.ValueIdx.reshapeEquiv_ix2_1ab _ _ _
  rw [hx]; rfl

/-- The rows a device stores itself: its own slab. -/
theorem write_own (c : Dev nD) (o : Fin 2 → Nat) (ho : o = ![64 * c.val, 0]) (h : ∀ a, o a + S64x64.size a ≤ S1024x64.size a)
    (o' : Fin 3 → Nat) (ho' : o' = ![c.val, 0, 0]) (h' : ∀ a, o' a + S1x64x64.size a ≤ S16x64x64.size a)
    (f : (cc0_stg0_0 : Ref sig .tc).ty.Contents (Elt F)) :
    ∀ i ∈ oSet c, ((oM : Memref sig .tc .vmem S1024x64 .bf16).access (Rect.unit (s := S1024x64) o S64x64.size h)).write (Elt F) f
        (k0_pay22 ((yM : Memref sig .tc .vmem S16x64x64 .bf16).view.readAt (Elt F) (Rect.unit (s := S16x64x64) o' S1x64x64.size h').toLoadRect (ybAt m c)))
        Finset.univ i = outAt m c i := by
  intro i hi
  have hi' : i ∈ ((oM : Memref sig .tc .vmem S1024x64 .bf16).access (Rect.unit (s := S1024x64) o S64x64.size h)).set := by
    rw [← oSet_rect c o ho h] at hi
    exact (Finset.ext_iff.mp (View.set_slice_whole cc0_stg0_0 _) i).mpr hi
  obtain ⟨x, -, rfl⟩ := Finset.mem_map.mp hi'
  rw [View.write_emb_of_mem _ _ (Finset.mem_univ _)]
  have e := emb_o c o ho h x
  refine Eq.trans ?_ (outAt_block m c c _ x e.1 e.2).symm
  show ybAt m c ((Rect.unit (s := S16x64x64) o' S1x64x64.size h').emb (Shape.reshapeEquiv _ x)) = _
  rw [emb_y c o' ho' h']
  have hx (hn) : Shape.reshapeEquiv (s' := S64x64) (s := S1x64x64) hn x = ix3 (⟨0, Nat.one_pos⟩ : Fin 1) (x 0 : Fin 64) (x 1 : Fin 64) := by
    conv_lhs => rw [Idealize.ShloMosaic.ValueIdx.eq_ix2 x]
    exact Idealize.ShloMosaic.ValueIdx.reshapeEquiv_ix2_1ab _ _ _
  rw [hx]; rfl

/-- The payload of slab `j`: the columns from `64 j` of the rounded result. -/
theorem slab_pay (c j : Dev nD) (o : Fin 2 → Nat) (ho : o = ![0, 64 * j.val]) (hs : S64x1024.Slices o S64x64) (hc : S64x64.ShapeCasts S1x64x64)
    (x : S1x64x64.Idx) :
    shapeCast S1x64x64 (truncf .bf16 (extractStridedSlice S64x64 o (act m c) hs) bitsLt_bf16_f32) hc x
      = ybAt m c (ix3 (j : Fin 16) (x 1 : Fin 64) (x 2 : Fin 64)) := by
  subst ho
  have h0 : (x 0).val < 1 := (x 0).isLt
  have key : x = Shape.reshapeEquiv hc.symm (ix2 (x 1 : Fin 64) (x 2 : Fin 64) : S64x64.Idx) :=
    ((Idealize.ShloMosaic.ValueIdx.reshapeEquiv_ix2_1ab (a := 64) (b := 64) hc.symm (x 1) (x 2)).trans
      (Shape.idx3_ext (d := ![1, 64, 64]) (x := ix3 (⟨0, Nat.one_pos⟩ : Fin 1) (x 1 : Fin 64) (x 2 : Fin 64)) (y := x) (by show 0 = (x 0).val; omega) rfl rfl)).symm
  have hx : Shape.reshapeEquiv hc x = (ix2 (x 1 : Fin 64) (x 2 : Fin 64) : S64x64.Idx) :=
    (congrArg (Shape.reshapeEquiv hc) key).trans (by rw [Shape.reshapeEquiv_reshapeEquiv, Shape.reshapeEquiv_self])
  unfold shapeCast
  rw [hx]
  unfold ybAt actB truncf extractStridedSlice
  refine congrArg _ (congrArg _ (funext fun a => ?_))
  match a with
  | ⟨0, _⟩ => exact Fin.ext (by show 0 + (x 1).val = (x 1).val; omega)
  | ⟨1, _⟩ => rfl

end Cert.RingProof

end
-- ==== Proof.Moves.lean ====
/-
The rules for the transfers and the vector operations: the two operand copies, the sixteen stores into the slab buffer,
a device's own rows, the fifteen sends and the waits for them.
-/
module

public import proofs.«01_k».proof.Proof.Steps
public import proofs.«01_k».proof.Proof.Contents

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-- A step not done, or done, is looked at and put back as it was. -/
theorem phase_peek {I : Type} [Fintype I] [DecidableEq I] (A B : I → sProp 𝕄) (D : Finset I) (r : I) (hr : r ∉ D) :
    phase A B D ⊢ iprop(A r ∗ (A r -∗ phase A B D)) := by
  unfold phase
  have h1 : (bigSep Dᶜ A : sProp 𝕄) = iprop(A r ∗ bigSep (Dᶜ.erase r) A) := BI.bigSep_erase (Finset.mem_compl.mpr hr)
  rw [h1]
  iintro ⟨⟨HA, HP⟩, HD⟩
  isplitl [HA]; · iexact HA
  iintro HA
  isplitl [HA HP]
  · isplitl [HA]; · iexact HA
    iexact HP
  iexact HD

section Rules
variable (K : Dev nD × CI → ℕ) (c : Dev nD)

/-! ## The operand copies -/

/-- The operand and its copy as the views the copy names. -/
theorem xPts_view (f : Buf (Elt F) ((c : Thread nD τ).loc cc0_scratch0)) :
    (xPts c f : sProp 𝕄) = ((xM : Memref sig .tc .vmem S64x1024 .f32).view.loc (c : Thread nD τ) ↦[(xM : Memref sig .tc .vmem S64x1024 .f32).view.set]{fullShare} f) := by
  unfold xPts; exact (congrArg (fun S => (_ ↦[S]{fullShare} _ : sProp 𝕄)) (View.set_whole cc0_scratch0)).symm
/-- The same for the argument it is copied from, -/
theorem xaPts_view :
    (xaPts m c : sProp 𝕄) = ((xArg : Memref sig .tc .hbm S64x1024 .f32).view.loc (c : Thread nD τ) ↦[(xArg : Memref sig .tc .hbm S64x1024 .f32).view.set]{fullShare} m ((c : Thread nD τ).loc main_arg0)) := by
  unfold xaPts; exact (congrArg (fun S => (_ ↦[S]{fullShare} _ : sProp 𝕄)) (View.set_whole main_arg0)).symm
/-- for the second operand's copy, -/
theorem wPts_view (f : Buf (Elt F) ((c : Thread nD τ).loc cc0_scratch1)) :
    (wPts c f : sProp 𝕄) = ((wM : Memref sig .tc .vmem S1024x1024 .f32).view.loc (c : Thread nD τ) ↦[(wM : Memref sig .tc .vmem S1024x1024 .f32).view.set]{fullShare} f) := by
  unfold wPts; exact (congrArg (fun S => (_ ↦[S]{fullShare} _ : sProp 𝕄)) (View.set_whole cc0_scratch1)).symm
/-- and for the second argument. -/
theorem waPts_view :
    (waPts m c : sProp 𝕄) = ((wArg : Memref sig .tc .hbm S1024x1024 .f32).view.loc (c : Thread nD τ) ↦[(wArg : Memref sig .tc .hbm S1024x1024 .f32).view.set]{fullShare} m ((c : Thread nD τ).loc main_arg1)) := by
  unfold waPts; exact (congrArg (fun S => (_ ↦[S]{fullShare} _ : sProp 𝕄)) (View.set_whole main_arg1)).symm
/-- A copy leaves the operand's contents. -/
theorem copied_x (f : Buf (Elt F) ((c : Thread nD τ).loc cc0_scratch0)) :
    (xM : Memref sig .tc .vmem S64x1024 .f32).view.write (Elt F) f ((xArg : Memref sig .tc .hbm S64x1024 .f32).view.read (Elt F) (m ((c : Thread nD τ).loc main_arg0))) Finset.univ
      = xAt m c := View.write_whole_univ cc0_scratch0 f _
/-- The second copy leaves the second operand's. -/
theorem copied_w (f : Buf (Elt F) ((c : Thread nD τ).loc cc0_scratch1)) :
    (wM : Memref sig .tc .vmem S1024x1024 .f32).view.write (Elt F) f ((wArg : Memref sig .tc .hbm S1024x1024 .f32).view.read (Elt F) (m ((c : Thread nD τ).loc main_arg1))) Finset.univ
      = wAt m c := View.write_whole_univ cc0_scratch1 f _

/-- Copying the first operand into vector memory: its completion is awaited later. -/
theorem step_copy_x (s : DmaSem sig) (hs : s = cpxS)
    {hsrc : (xArg : Memref sig .tc .hbm S64x1024 .f32).view.WordExact} {hdst : (xM : Memref sig .tc .vmem S64x1024 .f32).view.WordExact}
    {hsem : DmaTarget.Typed (nD := nD) (p := (Proc.tc : Proc τ)) .hbm (.dma s) (.here (xM : Memref sig .tc .vmem S64x1024 .f32))}
    {α : Type} {Q : α → sProp 𝕄} {kt : PUnit → Prog (TpuEff nD τ sig (Elt F) Λ₀ .tc) α} :
    iprop(records m K ∗ dutyTok ER (cpxCell c) 0 () ∗ xaPts m c ∗ ∃ f, xPts (F := F) c f)
      ⊢ iprop((cred (tallyAt (cpxCell c) () Nx) -∗ wp frame (wpE (defs₀ (F := F)) 𝒱₀ (c : Thread nD τ) none) Set.univ (kt ⟨⟩) Q)
        -∗ wp frame (wpE (defs₀ (F := F)) 𝒱₀ (c : Thread nD τ) none) Set.univ
          (.op (.enqueueDma xArg (.here xM) (.dma s) hsrc hdst hsem) kt) Q) := by
  subst hs
  iintro ⟨#HK, Ht, Ha, ⟨%f, Hx⟩⟩ Hk
  ihave Ha := (Entails.of_eq (xaPts_view m c)) $$ Ha
  ihave Hx := (Entails.of_eq (xPts_view c f)) $$ Hx
  iapply (Rounds.wp_copy_pointsTo 𝒱₀ ER (ringRd m) (c : Thread nD τ) none (κ := K (c, iCpx)) (r := 0) (d := ()) (src := xArg) (dst := xM)
      (q := fullShare) (fs := m ((c : Thread nD τ).loc main_arg0)) (fd := f)
      (duty_ring m c _ (ring_csem iCpx)) () Nx rfl ((amount_ring m (cpxCell c)).trans units_cpx)
      (by
        rw [copied_x m c f, ← xaPts_view m c, ← xPts_view c (F := F)]
        exact Entails.of_eq ((payload_ring m c _).trans (pay_cpx m c)).symm)) $$ [Ht Ha Hx]
  · isplitr; · iapply (inv_at m K c iCpx); iexact HK
    isplitl [Ha]; · iexact Ha
    isplitl [Hx]; · iexact Hx
    isplitl [Ht]; · iexact Ht
    iapply (reached_at m K c iCpx); iexact HK
  iexact Hk

/-- Copying the second operand. -/
theorem step_copy_w (s : DmaSem sig) (hs : s = cpwS)
    {hsrc : (wArg : Memref sig .tc .hbm S1024x1024 .f32).view.WordExact} {hdst : (wM : Memref sig .tc .vmem S1024x1024 .f32).view.WordExact}
    {hsem : DmaTarget.Typed (nD := nD) (p := (Proc.tc : Proc τ)) .hbm (.dma s) (.here (wM : Memref sig .tc .vmem S1024x1024 .f32))}
    {α : Type} {Q : α → sProp 𝕄} {kt : PUnit → Prog (TpuEff nD τ sig (Elt F) Λ₀ .tc) α} :
    iprop(records m K ∗ dutyTok ER (cpwCell c) 0 () ∗ waPts m c ∗ ∃ f, wPts (F := F) c f)
      ⊢ iprop((cred (tallyAt (cpwCell c) () Nw) -∗ wp frame (wpE (defs₀ (F := F)) 𝒱₀ (c : Thread nD τ) none) Set.univ (kt ⟨⟩) Q)
        -∗ wp frame (wpE (defs₀ (F := F)) 𝒱₀ (c : Thread nD τ) none) Set.univ
          (.op (.enqueueDma wArg (.here wM) (.dma s) hsrc hdst hsem) kt) Q) := by
  subst hs
  iintro ⟨#HK, Ht, Ha, ⟨%f, Hx⟩⟩ Hk
  ihave Ha := (Entails.of_eq (waPts_view m c)) $$ Ha
  ihave Hx := (Entails.of_eq (wPts_view c f)) $$ Hx
  iapply (Rounds.wp_copy_pointsTo 𝒱₀ ER (ringRd m) (c : Thread nD τ) none (κ := K (c, iCpw)) (r := 0) (d := ()) (src := wArg) (dst := wM)
      (q := fullShare) (fs := m ((c : Thread nD τ).loc main_arg1)) (fd := f)
      (duty_ring m c _ (ring_csem iCpw)) () Nw rfl ((amount_ring m (cpwCell c)).trans units_cpw)
      (by
        rw [copied_w m c f, ← waPts_view m c, ← wPts_view c (F := F)]
        exact Entails.of_eq ((payload_ring m c _).trans (pay_cpw m c)).symm)) $$ [Ht Ha Hx]
  · isplitr; · iapply (inv_at m K c iCpw); iexact HK
    isplitl [Ha]; · iexact Ha
    isplitl [Hx]; · iexact Hx
    isplitl [Ht]; · iexact Ht
    iapply (reached_at m K c iCpw); iexact HK
  iexact Hk

/-! ## The slab buffer -/

/-- Slabs `D` are computed, the others hold anything. -/
def Ys (D : Finset (Dev nD)) : sProp 𝕄 := phase (fun j => iprop(∃ f, yPts (F := F) c j f)) (fun j => yPts c j (ybAt m c)) D

/-- Reading a slab not computed yet, of which nothing is used. -/
theorem step_slab_load (j : Dev nD) (D : Finset (Dev nD)) (hr : j ∉ D) (o : Fin 3 → Nat) (ho : o = ![j.val, 0, 0])
    (h : ∀ a, o a + S1x64x64.size a ≤ S16x64x64.size a)
    {hl : (yM : Memref sig .tc .vmem S16x64x64 .bf16).view.LoadsAt (Rect.unit (s := S16x64x64) o S1x64x64.size h).toLoadRect}
    {α : Type} {Q : α → sProp 𝕄} {kt : Vec F S1x64x64 .bf16 → Prog (TpuEff nD τ sig (Elt F) Λ₀ .tc) α} :
    Ys m c D ⊢ iprop((∀ v, Ys m c D -∗ wp frame (wpE (defs₀ (F := F)) 𝒱₀ (c : Thread nD τ) none) Set.univ (kt v) Q)
      -∗ wp frame (wpE (defs₀ (F := F)) 𝒱₀ (c : Thread nD τ) none) Set.univ
        (.op (.load yM (Rect.unit (s := S16x64x64) o S1x64x64.size h).toLoadRect hl) kt) Q) := by
  unfold Ys
  iintro HY Hk
  ihave HY := (phase_peek _ _ D j hr) $$ HY
  icases HY with ⟨⟨%f, Hf⟩, Hback⟩
  unfold yPts
  iapply (wp_load_rect 𝒱₀ (c : Thread nD τ) none Set.univ (m := yM) (r := Rect.unit (s := S16x64x64) o S1x64x64.size h) (S := ySet j) (f := f)
    (by rw [← ySet_rect j o ho h]; exact (View.set_slice_whole cc0_scratch2 _).subset)) $$ [Hf]
  · iexact Hf
  iintro Hf
  iapply Hk
  iapply Hback
  iexists f; iexact Hf

/-- Storing slab `j`'s payload. -/
theorem step_slab_store (j : Dev nD) (D D' : Finset (Dev nD)) (hr : j ∉ D) (hD : insert j D = D') (o : Fin 3 → Nat) (ho : o = ![j.val, 0, 0])
    (h : ∀ a, o a + S1x64x64.size a ≤ S16x64x64.size a) (w : FVec F S1x64x64 .bf16)
    (hw : ∀ x : S1x64x64.Idx, w x = ybAt m c (ix3 (j : Fin 16) (x 1 : Fin 64) (x 2 : Fin 64)))
    {hx : ((yM : Memref sig .tc .vmem S16x64x64 .bf16).access (Rect.unit (s := S16x64x64) o S1x64x64.size h)).Stores Finset.univ}
    {hm : (Finset.univ : Finset (Rect.unit (s := S16x64x64) o S1x64x64.size h).shape.Idx) = Finset.univ ∨ ∀ a, (Rect.unit (s := S16x64x64) o S1x64x64.size h).stride a = 1}
    {α : Type} {Q : α → sProp 𝕄} {kt : PUnit → Prog (TpuEff nD τ sig (Elt F) Λ₀ .tc) α} :
    Ys m c D ⊢ iprop((Ys m c D' -∗ wp frame (wpE (defs₀ (F := F)) 𝒱₀ (c : Thread nD τ) none) Set.univ (kt ⟨⟩) Q)
      -∗ wp frame (wpE (defs₀ (F := F)) 𝒱₀ (c : Thread nD τ) none) Set.univ
        (.op (.store yM (Rect.unit (s := S16x64x64) o S1x64x64.size h) w Finset.univ hx hm) kt) Q) := by
  unfold Ys
  iintro HY Hk
  ihave HY := (phase_take _ _ D D' j hr hD) $$ HY
  icases HY with ⟨⟨%f, Hf⟩, Hback⟩
  unfold yPts
  iapply (wp_store 𝒱₀ (c : Thread nD τ) none Set.univ (m := yM) (r := Rect.unit (s := S16x64x64) o S1x64x64.size h) (w := w) (Mk := Finset.univ)
    (S := ySet j) (f := f)
    (by rw [View.setOn_univ]; rw [← ySet_rect j o ho h]; exact (View.set_slice_whole cc0_scratch2 _).subset)) $$ [Hf]
  · iexact Hf
  iintro Hf
  iapply Hk
  iapply Hback
  ihave Hf := (Entails.of_eq (pointsTo_congr (write_slab m c j o ho h f w hw))) $$ Hf
  iexact Hf

/-! ## A device's own rows -/

/-- Reading its own slab. -/
theorem step_own_load (o : Fin 3 → Nat) (ho : o = ![c.val, 0, 0]) (h : ∀ a, o a + S1x64x64.size a ≤ S16x64x64.size a)
    {hl : (yM : Memref sig .tc .vmem S16x64x64 .bf16).view.LoadsAt (Rect.unit (s := S16x64x64) o S1x64x64.size h).toLoadRect}
    {α : Type} {Q : α → sProp 𝕄} {kt : Vec F S1x64x64 .bf16 → Prog (TpuEff nD τ sig (Elt F) Λ₀ .tc) α} :
    yPts c c (ybAt m c) ⊢ iprop((yPts c c (ybAt m c) -∗ wp frame (wpE (defs₀ (F := F)) 𝒱₀ (c : Thread nD τ) none) Set.univ
          (kt ((yM : Memref sig .tc .vmem S16x64x64 .bf16).view.readAt (Elt F) (Rect.unit (s := S16x64x64) o S1x64x64.size h).toLoadRect (ybAt m c))) Q)
      -∗ wp frame (wpE (defs₀ (F := F)) 𝒱₀ (c : Thread nD τ) none) Set.univ
        (.op (.load yM (Rect.unit (s := S16x64x64) o S1x64x64.size h).toLoadRect hl) kt) Q) := by
  unfold yPts
  exact wp_load_rect 𝒱₀ (c : Thread nD τ) none Set.univ (m := yM) (r := Rect.unit (s := S16x64x64) o S1x64x64.size h) (S := ySet c) (f := ybAt m c)
    (by rw [← ySet_rect c o ho h]; exact (View.set_slice_whole cc0_scratch2 _).subset)

/-- Reading its own rows of the output, of which nothing is used; -/
theorem step_own_peek (f : Buf (Elt F) ((c : Thread nD τ).loc cc0_stg0_0)) (o : Fin 2 → Nat) (ho : o = ![64 * c.val, 0]) (h : ∀ a, o a + S64x64.size a ≤ S1024x64.size a)
    {hl : (oM : Memref sig .tc .vmem S1024x64 .bf16).view.LoadsAt (Rect.unit (s := S1024x64) o S64x64.size h).toLoadRect}
    {α : Type} {Q : α → sProp 𝕄} {kt : Vec F S64x64 .bf16 → Prog (TpuEff nD τ sig (Elt F) Λ₀ .tc) α} :
    oPts c c f ⊢ iprop((∀ v, oPts c c f -∗ wp frame (wpE (defs₀ (F := F)) 𝒱₀ (c : Thread nD τ) none) Set.univ (kt v) Q)
      -∗ wp frame (wpE (defs₀ (F := F)) 𝒱₀ (c : Thread nD τ) none) Set.univ
        (.op (.load oM (Rect.unit (s := S1024x64) o S64x64.size h).toLoadRect hl) kt) Q) := by
  unfold oPts
  iintro Hf Hk
  iapply (wp_load_rect 𝒱₀ (c : Thread nD τ) none Set.univ (m := oM) (r := Rect.unit (s := S1024x64) o S64x64.size h) (S := oSet c) (f := f)
    (by rw [← oSet_rect c o ho h]; exact (View.set_slice_whole cc0_stg0_0 _).subset)) $$ [Hf]
  · iexact Hf
  iintro Hf
  iapply Hk; iexact Hf

/-- storing its own slab there. -/
theorem step_own_store (f : Buf (Elt F) ((c : Thread nD τ).loc cc0_stg0_0)) (o : Fin 2 → Nat) (ho : o = ![64 * c.val, 0]) (h : ∀ a, o a + S64x64.size a ≤ S1024x64.size a)
    (o' : Fin 3 → Nat) (ho' : o' = ![c.val, 0, 0]) (h' : ∀ a, o' a + S1x64x64.size a ≤ S16x64x64.size a)
    {hx : ((oM : Memref sig .tc .vmem S1024x64 .bf16).access (Rect.unit (s := S1024x64) o S64x64.size h)).Stores Finset.univ}
    {hm : (Finset.univ : Finset (Rect.unit (s := S1024x64) o S64x64.size h).shape.Idx) = Finset.univ ∨ ∀ a, (Rect.unit (s := S1024x64) o S64x64.size h).stride a = 1}
    {α : Type} {Q : α → sProp 𝕄} {kt : PUnit → Prog (TpuEff nD τ sig (Elt F) Λ₀ .tc) α} :
    oPts c c f ⊢ iprop((oPts c c (outAt m c) -∗ wp frame (wpE (defs₀ (F := F)) 𝒱₀ (c : Thread nD τ) none) Set.univ (kt ⟨⟩) Q)
      -∗ wp frame (wpE (defs₀ (F := F)) 𝒱₀ (c : Thread nD τ) none) Set.univ
        (.op (.store oM (Rect.unit (s := S1024x64) o S64x64.size h)
          (k0_pay22 ((yM : Memref sig .tc .vmem S16x64x64 .bf16).view.readAt (Elt F) (Rect.unit (s := S16x64x64) o' S1x64x64.size h').toLoadRect (ybAt m c)))
          Finset.univ hx hm) kt) Q) := by
  unfold oPts
  iintro Hf Hk
  iapply (wp_store 𝒱₀ (c : Thread nD τ) none Set.univ (m := oM) (r := Rect.unit (s := S1024x64) o S64x64.size h) (Mk := Finset.univ)
    (S := oSet c) (f := f)
    (by rw [View.setOn_univ]; rw [← oSet_rect c o ho h]; exact (View.set_slice_whole cc0_stg0_0 _).subset)) $$ [Hf]
  · iexact Hf
  iintro Hf
  iapply Hk
  ihave Hf := (Entails.of_eq (pointsTo_congr (write_own m c o ho h o' ho' h' f))) $$ Hf
  iexact Hf

/-! ## The sends -/

/-- The other devices in `D` (by offset) are ready and have been sent to. -/
def P (D : Finset (Fin 15)) : sProp 𝕄 :=
  iprop(records m K ∗ levAts L lv ∗ Ow c (owedRcv c Dᶜ)
    ∗ phase (fun r => iprop(cred (tallyAt (rdyCell c r.rev) () 1) ∗ atPos ER (rdyCell c r.rev) 0 ∅ 0)) (fun r => semVal (rdyCell c r.rev) 0) D
    ∗ phase (fun r => iprop(dutyTok ER (sndCell c r) 0 () ∗ dutyTok ER (rcvCell (fwd c r) r) 0 () ∗ yPts c (fwd c r) (ybAt m c)))
        (fun r => cred (tallyAt (sndCell c r) () Nb)) D)
/-- The same, and the device at offset `r + 1` is ready: this device's rows of its output may be written. -/
def P' (D D' : Finset (Fin 15)) (r : Fin 15) : sProp 𝕄 :=
  iprop(records m K ∗ levAts L lv ∗ Ow c (owedRcv c Dᶜ)
    ∗ phase (fun r => iprop(cred (tallyAt (rdyCell c r.rev) () 1) ∗ atPos ER (rdyCell c r.rev) 0 ∅ 0)) (fun r => semVal (rdyCell c r.rev) 0) D'
    ∗ phase (fun r => iprop(dutyTok ER (sndCell c r) 0 () ∗ dutyTok ER (rcvCell (fwd c r) r) 0 () ∗ yPts c (fwd c r) (ybAt m c)))
        (fun r => cred (tallyAt (sndCell c r) () Nb)) D
    ∗ ∃ f, oPts (F := F) (fwd c r) c f)

/-- Awaiting that the device at offset `r + 1` is ready. -/
theorem step_ready (r : Fin 15) (D D' : Finset (Fin 15)) (hr : r ∉ D) (hD : insert r D = D')
    (s : Sem sig) (hs : s = rdyS r.rev) (n : ℤ) (hn : n = ((1 : ℕ) : ℤ))
    {α : Type} {Q : α → sProp 𝕄} {kt : PUnit → Prog (TpuEff nD τ sig (Elt F) Λ₀ .tc) α} :
    P m K c D ⊢ iprop((P' m K c D D' r -∗ wp frame (wpE (defs₀ (F := F)) 𝒱₀ (c : Thread nD τ) none) Set.univ (kt ⟨⟩) Q)
      -∗ wp frame (wpE (defs₀ (F := F)) 𝒱₀ (c : Thread nD τ) none) Set.univ (.op (.semWait s n) kt) Q) := by
  subst hs; subst hn
  unfold P P'
  iintro ⟨#HK, #Hlev, Ho, HW, HT⟩ Hk
  ihave HW := (phase_take _ _ D D' r hr hD) $$ HW
  icases HW with ⟨⟨Hc, Hat⟩, Hback⟩
  iapply (step_wait m K c (iRdy r.rev) (k' := 1) (wpE_semWait_eq 𝒱₀ (c : Thread nD τ) none Set.univ) rfl (owedRcv c Dᶜ)
    (mayWait_below c _ (by show 1 < 2; decide) _)) $$ [Ho Hc Hat]
  · isplitr; · iexact HK
    isplitr; · iexact Hlev
    isplitl [Ho]; · iexact Ho
    isplitl [Hc]; · iexact Hc
    iexact Hat
  iintro ⟨Ho, Hz, Hp⟩
  iapply Hk
  isplitr; · iexact HK
  isplitr; · iexact Hlev
  isplitl [Ho]; · iexact Ho
  isplitl [Hz Hback]; · iapply Hback; iexact Hz
  isplitl [HT]; · iexact HT
  ihave Hp := (Entails.of_eq (show pay m c (csem (iRdy r.rev)) = _ from pay_rdy m c r.rev)) $$ Hp
  unfold rdyPay
  rw [bwd_rev]
  iexact Hp

/-- The slab of the device at offset `r + 1` lands in this device's rows of its output. -/
theorem landed (r : Fin 15) (o : Fin 2 → Nat) (ho : o = ![64 * c.val, 0]) (h : ∀ a, o a + S64x64.size a ≤ S1024x64.size a)
    (o' : Fin 3 → Nat) (ho' : o' = ![(fwd c r).val, 0, 0]) (h' : ∀ a, o' a + S1x64x64.size a ≤ S16x64x64.size a)
    (f : (cc0_stg0_0 : Ref sig .tc).ty.Contents (Elt F)) :
    (((fwd c r : Thread nD τ).loc cc0_stg0_0) ↦[oSet c]{fullShare} ((oSl o h).view.write (Elt F) f ((ySl o' h').view.read (Elt F) (ybAt m c)) Finset.univ) : sProp 𝕄)
      ⊢ pay m (fwd c r) (csem (iRcv r)) := by
  rw [pointsTo_congr (land_block m (fwd c r) c o ho h o' ho' h' f)]
  refine BI.Entails.trans ?_ (Entails.of_eq (pay_rcv m (fwd c r) r).symm)
  unfold rcvPay oPts
  rw [bwd_fwd]
  exact BI.Entails.refl _

/-- Sending it. -/
theorem step_send (r : Fin 15) (D D' : Finset (Fin 15)) (hr : r ∉ D) (hD : insert r D = D')
    (n : Dev nD) (hn : n = fwd c r) (s₁ s₂ : DmaSem sig) (hs₁ : s₁ = sndS r) (hs₂ : s₂ = rcvS r)
    (o : Fin 2 → Nat) (ho : o = ![64 * c.val, 0]) (h : ∀ a, o a + S64x64.size a ≤ S1024x64.size a)
    (o' : Fin 3 → Nat) (ho' : o' = ![(fwd c r).val, 0, 0]) (h' : ∀ a, o' a + S1x64x64.size a ≤ S16x64x64.size a)
    {hsc : (oSl o h : Memref sig (Dev.tc n : Thread nD τ).2.kind .vmem S64x64 .bf16).view.ref.isScScratch = false}
    {hsrc : (ySl o' h').view.WordExact} {hdst : (oSl o h).view.WordExact}
    {hsem : DmaTarget.Typed .vmem (.dma s₂) (.remote (Dev.tc n : Thread nD τ) (oSl o h) (.dma s₁) hsc)}
    {α : Type} {Q : α → sProp 𝕄} {kt : PUnit → Prog (TpuEff nD τ sig (Elt F) Λ₀ .tc) α} :
    P' m K c D D' r ⊢ iprop((P m K c D' -∗ wp frame (wpE (defs₀ (F := F)) 𝒱₀ (c : Thread nD τ) none) Set.univ (kt ⟨⟩) Q)
      -∗ wp frame (wpE (defs₀ (F := F)) 𝒱₀ (c : Thread nD τ) none) Set.univ
        (.op (.enqueueDma (ySl o' h') (.remote (Dev.tc n : Thread nD τ) (oSl o h) (.dma s₁) hsc) (.dma s₂) hsrc hdst hsem) kt) Q) := by
  subst hn; subst hs₁; subst hs₂
  unfold P P'
  iintro ⟨#HK, #Hlev, Ho, HW, HT, ⟨%f, Hf⟩⟩ Hk
  ihave HT := (phase_take _ _ D D' r hr hD) $$ HT
  icases HT with ⟨⟨Ht₁, Ht₂, Hy⟩, Hback⟩
  subst hD
  unfold Ow
  icases Ho with ⟨%W, HO⟩
  unfold yPts oPts
  iapply (Rounds.wp_send_pointsTo 𝒱₀ ER (ringRd m) (c : Thread nD τ) none (κ₁ := K (c, iSnd r)) (κ₂ := K (fwd c r, iRcv r)) (c' := (fwd c r : Thread nD τ))
    (r₁ := 0) (r₂ := 0) (d₁ := ()) (d₂ := ()) (src := ySl o' h') (dst := oSl o h) (q := fullShare) (fs := ybAt m c) (fd := f)
    (duty_ring m c _ (ring_csem (iSnd r))) (duty_ring m (fwd c r) _ (ring_csem (iRcv r)))
    () () Nb rfl ((amount_ring m (sndCell c r)).trans (units_snd r)) ((amount_ring m (rcvCell (fwd c r) r)).trans (units_rcv r))
    (owedRcv c (insert r D)ᶜ) (O₀ := owedRcv c Dᶜ) (owedRcv_peel c D r hr) (W := W)
    (by
      rw [ySl_set (fwd c r) o' ho' h']
      exact Entails.of_eq ((payload_ring m c _).trans (pay_snd m c r)).symm)
    (by
      rw [oSl_set c o ho h]
      exact landed m c r o ho h o' ho' h' f)) $$ [Hy Hf HO Ht₁ Ht₂]
  · isplitr; · iapply (inv_at m K c (iSnd r)); iexact HK
    isplitr; · iapply (inv_at m K (fwd c r) (iRcv r)); iexact HK
    isplitl [Hy]; · rw [ySl_set (fwd c r) o' ho' h']; iexact Hy
    isplitl [Hf]; · rw [oSl_set c o ho h]; iexact Hf
    isplitl [HO]; · iexact HO
    isplitl [Ht₁]; · iexact Ht₁
    isplitr; · iapply (reached_at m K c (iSnd r)); iexact HK
    isplitl [Ht₂]; · iexact Ht₂
    iapply (reached_at m K (fwd c r) (iRcv r)); iexact HK
  iintro ⟨Hc, HO⟩
  iapply Hk
  isplitr; · iexact HK
  isplitr; · iexact Hlev
  isplitl [HO]; · iexists W; iexact HO
  isplitl [HW]; · iexact HW
  iapply Hback; iexact Hc

/-! ## The waits for the transfers -/

/-- What the devices before this one, by the offsets `D`, sent has arrived. -/
def R (D : Finset (Fin 15)) : sProp 𝕄 :=
  iprop(records m K ∗ levAts L lv ∗ Ow c 0
    ∗ phase (fun r => iprop(cred (tallyAt (rcvCell c r) () Nb) ∗ atPos ER (rcvCell c r) 0 ∅ 0))
        (fun r => iprop(semVal (rcvCell c r) 0 ∗ oPts c (bwd c r) (outAt m c))) D)
/-- What was sent to the offsets `D` has left. -/
def G (D : Finset (Fin 15)) : sProp 𝕄 :=
  iprop(records m K ∗ levAts L lv ∗ Ow c 0
    ∗ phase (fun r => iprop(cred (tallyAt (sndCell c r) () Nb) ∗ atPos ER (sndCell c r) 0 ∅ 0))
        (fun r => iprop(semVal (sndCell c r) 0 ∗ yPts c (fwd c r) (ybAt m c))) D)

/-- The wait for one arrival. -/
theorem step_recv (r : Fin 15) (D D' : Finset (Fin 15)) (hr : r ∉ D) (hD : insert r D = D') (s : DmaSem sig) (hs : s = rcvS r)
    (o : Fin 2 → Nat) (h : ∀ a, o a + S64x64.size a ≤ S1024x64.size a) (o' : Fin 3 → Nat) (h' : ∀ a, o' a + S1x64x64.size a ≤ S16x64x64.size a)
    {hsrc : (ySl o' h').view.WordExact} {hdst : (oSl o h).view.WordExact}
    {α : Type} {Q : α → sProp 𝕄} {kt : PUnit → Prog (TpuEff nD τ sig (Elt F) Λ₀ .tc) α} :
    R m K c D ⊢ iprop((R m K c D' -∗ wp frame (wpE (defs₀ (F := F)) 𝒱₀ (c : Thread nD τ) none) Set.univ (kt ⟨⟩) Q)
      -∗ wp frame (wpE (defs₀ (F := F)) 𝒱₀ (c : Thread nD τ) none) Set.univ (.op (.waitDma2 s (ySl o' h') (oSl o h) hsrc hdst) kt) Q) := by
  subst hs
  unfold R
  iintro ⟨#HK, #Hlev, Ho, HW⟩ Hk
  ihave HW := (phase_take _ _ D D' r hr hD) $$ HW
  icases HW with ⟨⟨Hc, Hat⟩, Hback⟩
  iapply (step_wait m K c (iRcv r) (k' := Nb) (wpE_waitDma2_eq 𝒱₀ (c : Thread nD τ) none Set.univ) (units_rcv r).symm 0
    (by rw [MayWait_zero]; iintro -; iempintro)) $$ [Ho Hc Hat]
  · isplitr; · iexact HK
    isplitr; · iexact Hlev
    isplitl [Ho]; · iexact Ho
    isplitl [Hc]; · ihave Hc := (Entails.of_eq (congrArg (fun k => (cred (tallyAt (rcvCell c r) () k) : sProp 𝕄)) (units_rcv r).symm)) $$ Hc; iexact Hc
    iexact Hat
  iintro ⟨Ho, Hz, Hp⟩
  iapply Hk
  isplitr; · iexact HK
  isplitr; · iexact Hlev
  isplitl [Ho]; · iexact Ho
  iapply Hback
  isplitl [Hz]; · iexact Hz
  ihave Hp := (Entails.of_eq (show pay m c (csem (iRcv r)) = _ from pay_rcv m c r)) $$ Hp
  unfold rcvPay
  iexact Hp

/-- A slab counts as many units as a block of the output. -/
theorem slab_credit (o' : Fin 3 → Nat) (h' : ∀ a, o' a + S1x64x64.size a ≤ S16x64x64.size a) (r : Fin 15) :
    (ySl o' h').view.dmaCredit = units (csem (iSnd r)) := by
  rw [show csem (iSnd r) = .dma (sndS r) from rfl, units_snd]

/-- The wait for one send to have left. -/
theorem step_sent (r : Fin 15) (D D' : Finset (Fin 15)) (hr : r ∉ D) (hD : insert r D = D') (s : DmaSem sig) (hs : s = sndS r)
    (o : Fin 2 → Nat) (h : ∀ a, o a + S64x64.size a ≤ S1024x64.size a) (o' : Fin 3 → Nat) (h' : ∀ a, o' a + S1x64x64.size a ≤ S16x64x64.size a)
    {hsrc : (oSl o h).view.WordExact} {hdst : (ySl o' h').view.WordExact}
    {α : Type} {Q : α → sProp 𝕄} {kt : PUnit → Prog (TpuEff nD τ sig (Elt F) Λ₀ .tc) α} :
    G m K c D ⊢ iprop((G m K c D' -∗ wp frame (wpE (defs₀ (F := F)) 𝒱₀ (c : Thread nD τ) none) Set.univ (kt ⟨⟩) Q)
      -∗ wp frame (wpE (defs₀ (F := F)) 𝒱₀ (c : Thread nD τ) none) Set.univ (.op (.waitDma2 s (oSl o h) (ySl o' h') hsrc hdst) kt) Q) := by
  subst hs
  unfold G
  iintro ⟨#HK, #Hlev, Ho, HW⟩ Hk
  ihave HW := (phase_take _ _ D D' r hr hD) $$ HW
  icases HW with ⟨⟨Hc, Hat⟩, Hback⟩
  iapply (step_wait m K c (iSnd r) (k' := (ySl o' h').view.dmaCredit) (wpE_waitDma2_eq 𝒱₀ (c : Thread nD τ) none Set.univ) (slab_credit o' h' r) 0
    (by rw [MayWait_zero]; iintro -; iempintro)) $$ [Ho Hc Hat]
  · isplitr; · iexact HK
    isplitr; · iexact Hlev
    isplitl [Ho]; · iexact Ho
    isplitl [Hc]; · ihave Hc := (Entails.of_eq (congrArg (fun k => (cred (tallyAt (sndCell c r) () k) : sProp 𝕄)) (units_snd r).symm)) $$ Hc; iexact Hc
    iexact Hat
  iintro ⟨Ho, Hz, Hp⟩
  iapply Hk
  isplitr; · iexact HK
  isplitr; · iexact Hlev
  isplitl [Ho]; · iexact Ho
  iapply Hback
  isplitl [Hz]; · iexact Hz
  ihave Hp := (Entails.of_eq (show pay m c (csem (iSnd r)) = _ from pay_snd m c r)) $$ Hp
  unfold sndPay
  iexact Hp

end Rules

end Cert.RingProof

end
-- ==== Proof.Body.lean ====
/-
The body of the kernel, part by part: each part's rule takes the state of its phase before it to the state after it.
-/
module

public import proofs.«01_k».proof.Proof.Moves

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## The orders of the steps -/

/-- The first `n` offsets in the order of the ready units: one after the other. -/
def sigUpto (n : ℕ) : Finset (Fin 15) := Finset.univ.filter fun r => r.val < n
/-- The first `n` slabs. -/
def slabUpto (n : ℕ) : Finset (Dev nD) := Finset.univ.filter fun j => j.val < n
/-- When the transfer of an offset comes: the near devices before the far ones, in both directions in turn. -/
def place (r : Fin 15) : ℕ := if r.val ≤ 7 then 2 * r.val else 29 - 2 * r.val
/-- The first `n` offsets in that order. -/
def upto (n : ℕ) : Finset (Fin 15) := Finset.univ.filter fun r => place r < n

/-- A device given by its number. -/
theorem dev_at (c : Dev nD) (r : Fin 15) {k : ℕ} (h : k = (c.val + (r.val + 1)) % 16) (hlt : k < nD) : (⟨k, hlt⟩ : Dev nD) = fwd c r :=
  Fin.ext (h.trans (by rw [fwd_val, Nat.add_assoc]))

section Body
variable (K : Dev nD × CI → ℕ) (c : Dev nD)

/-- Zero offsets are zero offsets. -/
theorem zero_off : (![0, 0] : Fin 2 → Nat) = fun _ => 0 := funext fun a => by fin_cases a <;> rfl

/-- Reading the copied operands whole. -/
theorem step_load_x (f : Buf (Elt F) ((c : Thread nD τ).loc cc0_scratch0)) (h : ∀ a, (![0, 0] : Fin 2 → Nat) a + S64x1024.size a ≤ S64x1024.size a)
    {hl : (xM : Memref sig .tc .vmem S64x1024 .f32).view.LoadsAt (Rect.unit (s := S64x1024) ![0, 0] S64x1024.size h).toLoadRect}
    {α : Type} {Q : α → sProp 𝕄} {kt : Vec F S64x1024 .f32 → Prog (TpuEff nD τ sig (Elt F) Λ₀ .tc) α} :
    xPts c f ⊢ iprop((xPts c f -∗ wp frame (wpE (defs₀ (F := F)) 𝒱₀ (c : Thread nD τ) none) Set.univ (kt f) Q)
      -∗ wp frame (wpE (defs₀ (F := F)) 𝒱₀ (c : Thread nD τ) none) Set.univ
        (.op (.load xM (Rect.unit (s := S64x1024) ![0, 0] S64x1024.size h).toLoadRect hl) kt) Q) := by
  unfold xPts
  iintro Hf Hk
  iapply (wp_load 𝒱₀ (c : Thread nD τ) none Set.univ (m := xM) (S := Finset.univ) (f := f) (Finset.subset_univ _)) $$ [Hf]
  · iexact Hf
  iintro Hf
  rw [show View.readAt (Elt F) xM.view (Rect.unit (s := S64x1024) ![0, 0] S64x1024.size h).toLoadRect f = f from Memref.readAt_unit_zero (Elt F) cc0_scratch0 zero_off h f]
  iapply Hk; iexact Hf
/-- The same for the second operand. -/
theorem step_load_w (f : Buf (Elt F) ((c : Thread nD τ).loc cc0_scratch1)) (h : ∀ a, (![0, 0] : Fin 2 → Nat) a + S1024x1024.size a ≤ S1024x1024.size a)
    {hl : (wM : Memref sig .tc .vmem S1024x1024 .f32).view.LoadsAt (Rect.unit (s := S1024x1024) ![0, 0] S1024x1024.size h).toLoadRect}
    {α : Type} {Q : α → sProp 𝕄} {kt : Vec F S1024x1024 .f32 → Prog (TpuEff nD τ sig (Elt F) Λ₀ .tc) α} :
    wPts c f ⊢ iprop((wPts c f -∗ wp frame (wpE (defs₀ (F := F)) 𝒱₀ (c : Thread nD τ) none) Set.univ (kt f) Q)
      -∗ wp frame (wpE (defs₀ (F := F)) 𝒱₀ (c : Thread nD τ) none) Set.univ
        (.op (.load wM (Rect.unit (s := S1024x1024) ![0, 0] S1024x1024.size h).toLoadRect hl) kt) Q) := by
  unfold wPts
  iintro Hf Hk
  iapply (wp_load 𝒱₀ (c : Thread nD τ) none Set.univ (m := wM) (S := Finset.univ) (f := f) (Finset.subset_univ _)) $$ [Hf]
  · iexact Hf
  iintro Hf
  rw [show View.readAt (Elt F) wM.view (Rect.unit (s := S1024x1024) ![0, 0] S1024x1024.size h).toLoadRect f = f from Memref.readAt_unit_zero (Elt F) cc0_scratch1 zero_off h f]
  iapply Hk; iexact Hf

/-- Something of every device is something of this one and of the others, by offset. -/
theorem split_others (Φ : Dev nD → sProp 𝕄) : bigSep Finset.univ Φ = iprop(Φ c ∗ bigSep Finset.univ fun r => Φ (fwd c r)) := by
  have h : (Finset.univ.erase c : Finset (Dev nD)) = Finset.univ.map ⟨fwd c, fwd_inj c⟩ := by revert c; decide
  have h1 : (bigSep Finset.univ Φ : sProp 𝕄) = iprop(Φ c ∗ bigSep (Finset.univ.erase c) Φ) := BI.bigSep_erase (Finset.mem_univ c)
  rw [h1, h, bigSep_map]
  rfl

/-- What the operand copies start from: their two cells and the four buffers. -/
def C0 : sProp 𝕄 :=
  iprop((dutyTok ER (cpxCell c) 0 () ∗ atPos ER (cpxCell c) 0 ∅ 0 ∗ xaPts m c ∗ ∃ f, xPts (F := F) c f)
    ∗ dutyTok ER (cpwCell c) 0 () ∗ atPos ER (cpwCell c) 0 ∅ 0 ∗ waPts m c ∗ ∃ f, wPts (F := F) c f)
/-- What they leave: the cells closed, the operands as they were, their copies in vector memory. -/
def C1 : sProp 𝕄 :=
  iprop((semVal (cpxCell c) 0 ∗ xaPts m c ∗ xPts c (xAt m c)) ∗ semVal (cpwCell c) 0 ∗ waPts m c ∗ wPts c (wAt m c))

/-- What the own rows, the barrier wait and the sends start from. -/
def N0 : sProp 𝕄 :=
  iprop((∃ f, oPts (F := F) c c f) ∗ (cred (tallyAt (barCell c) () 1) ∗ atPos ER (barCell c) 0 ∅ 0)
    ∗ (bigSep Finset.univ fun r : Fin 15 => iprop(cred (tallyAt (rdyCell c r.rev) () 1) ∗ atPos ER (rdyCell c r.rev) 0 ∅ 0))
    ∗ bigSep Finset.univ fun r : Fin 15 => iprop(dutyTok ER (sndCell c r) 0 () ∗ dutyTok ER (rcvCell (fwd c r) r) 0 ()))
/-- What the own rows and the barrier wait leave. -/
def N1 : sProp 𝕄 := iprop(yPts c c (ybAt m c) ∗ oPts c c (outAt m c) ∗ semVal (barCell c) 0)

/-- With all slabs computed the sends may begin. -/
theorem to_P : iprop(records m K ∗ levAts L lv ∗ Ow c (owedRcv c Finset.univ) ∗ (bigSep Finset.univ fun r : Fin 15 => yPts c (fwd c r) (ybAt m c))
    ∗ (bigSep Finset.univ fun r : Fin 15 => iprop(cred (tallyAt (rdyCell c r.rev) () 1) ∗ atPos ER (rdyCell c r.rev) 0 ∅ 0))
    ∗ bigSep Finset.univ fun r : Fin 15 => iprop(dutyTok ER (sndCell c r) 0 () ∗ dutyTok ER (rcvCell (fwd c r) r) 0 ()))
    ⊢ P m K c (upto 0) := by
  rw [show upto 0 = ∅ by decide]
  unfold P
  rw [Finset.compl_empty]
  iintro ⟨#HK, #Hlev, Ho, Hy, HW, HT⟩
  isplitr; · iexact HK
  isplitr; · iexact Hlev
  isplitl [Ho]; · iexact Ho
  isplitl [HW]; · iapply (phase_zero _ _); iexact HW
  iapply (phase_zero _ _)
  have hj : iprop((bigSep Finset.univ fun r : Fin 15 => iprop(dutyTok ER (sndCell c r) 0 () ∗ dutyTok ER (rcvCell (fwd c r) r) 0 ()))
      ∗ bigSep Finset.univ fun r : Fin 15 => yPts c (fwd c r) (ybAt m c))
      ⊢ bigSep Finset.univ fun r : Fin 15 => (iprop(dutyTok ER (sndCell c r) 0 () ∗ dutyTok ER (rcvCell (fwd c r) r) 0 () ∗ yPts c (fwd c r) (ybAt m c)) : sProp 𝕄) := by
    refine (Entails.of_eq (BI.bigSep_sep Finset.univ _ _).symm).trans (BI.bigSep_mono fun r _ => ?_)
    show iprop((dutyTok ER (sndCell c r) 0 () ∗ dutyTok ER (rcvCell (fwd c r) r) 0 ()) ∗ yPts c (fwd c r) (ybAt m c)) ⊢ _
    iintro ⟨⟨H₁, H₂⟩, H₃⟩
    isplitl [H₁]; · iexact H₁
    isplitl [H₂]; · iexact H₂
    iexact H₃
  iapply hj
  isplitl [HT]; · iexact HT
  iexact Hy

/-- The slab at an offset's place is the slab of the device at that offset. -/
theorem slab_at (r : Fin 15) : k0_off4 c (BitVec.ofNat 32 (1 + r.val)) = ![(fwd c r).val, 0, 0] := by
  rw [k0_off4_eq c r, fwd_val]

/-- The barrier unit and the first three ready units. -/
theorem part1_spec {Q : (Σ' (d0 : Dev nD) (v2 : BitVec 32), Sems sig S_) → sProp 𝕄} :
    S0 m K c ⊢ iprop((∀ v, ⌜v = ⟨c, Scalar.remsi (Scalar.divsi (Dev.word c) 1#32) 16#32, SemArray.scalar (sig.barrier 0 rfl)⟩⌝ ∗ S1 m K c (sigUpto 3) -∗ Q v)
      -∗ wp frame (wpE (defs₀ (F := F)) 𝒱₀ (c : Thread nD τ) none) Set.univ
        (k0_part1 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6) Q) := by
  rw [k0_part1_eq_skeleton]; unfold k0_part1_skel
  simp only [semSignalWord, semSignalHereWord, semWaitWord, Prog.lift, Prog.bind_op, Prog.bind_ret, Prog.pure_eq_ret, wp_deviceId]
  iintro H Hk
  iapply (step_bar m K c _ (by rfl) _ (by rfl)) $$ [H]; · iexact H
  iintro H
  ihave H := (Entails.of_eq (congrArg (S1 m K c) (show (∅ : Finset (Fin 15)) = sigUpto 0 by decide))) $$ H
  iapply (step_signal m K c 0 (sigUpto 0) (sigUpto 1) (by decide) (by decide) _ (dev_at c 0 (k0_dev1_eq c) _) _ (by rfl) _ (by rfl)) $$ [H]; · iexact H
  iintro H
  iapply (step_signal m K c 1 (sigUpto 1) (sigUpto 2) (by decide) (by decide) _ (dev_at c 1 (k0_dev2_eq c) _) _ (by rfl) _ (by rfl)) $$ [H]; · iexact H
  iintro H
  iapply (step_signal m K c 2 (sigUpto 2) (sigUpto 3) (by decide) (by decide) _ (dev_at c 2 (k0_dev3_eq c) _) _ (by rfl) _ (by rfl)) $$ [H]; · iexact H
  iintro H
  rw [wp_ret]; imodintro
  iapply Hk
  isplitr; · ipureintro; rfl
  iexact H

/-- Five more ready units. -/
theorem part2_spec (v2 : BitVec 32) {Q : BitVec 32 → sProp 𝕄} :
    S1 m K c (sigUpto 3) ⊢ iprop((∀ v, S1 m K c (sigUpto 8) -∗ Q v)
      -∗ wp frame (wpE (defs₀ (F := F)) 𝒱₀ (c : Thread nD τ) none) Set.univ
        (k0_part2 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2) Q) := by
  rw [k0_part2_eq_skeleton]; unfold k0_part2_skel
  simp only [semSignalWord, semSignalHereWord, semWaitWord, Prog.lift, Prog.bind_op, Prog.bind_ret, Prog.pure_eq_ret, wp_deviceId]
  iintro H Hk
  iapply (step_signal m K c 3 (sigUpto 3) (sigUpto 4) (by decide) (by decide) _ (dev_at c 3 (k0_dev4_eq c) _) _ (by rfl) _ (by rfl)) $$ [H]; · iexact H
  iintro H
  iapply (step_signal m K c 4 (sigUpto 4) (sigUpto 5) (by decide) (by decide) _ (dev_at c 4 (k0_dev5_eq c) _) _ (by rfl) _ (by rfl)) $$ [H]; · iexact H
  iintro H
  iapply (step_signal m K c 5 (sigUpto 5) (sigUpto 6) (by decide) (by decide) _ (dev_at c 5 (k0_dev6_eq c) _) _ (by rfl) _ (by rfl)) $$ [H]; · iexact H
  iintro H
  iapply (step_signal m K c 6 (sigUpto 6) (sigUpto 7) (by decide) (by decide) _ (dev_at c 6 (k0_dev7_eq c) _) _ (by rfl) _ (by rfl)) $$ [H]; · iexact H
  iintro H
  iapply (step_signal m K c 7 (sigUpto 7) (sigUpto 8) (by decide) (by decide) _ (dev_at c 7 (k0_dev8_eq c) _) _ (by rfl) _ (by rfl)) $$ [H]; · iexact H
  iintro H
  rw [wp_ret]; imodintro
  iapply Hk
  iexact H

/-- Five more ready units. -/
theorem part3_spec (v2 v53 : BitVec 32) {Q : BitVec 32 → sProp 𝕄} :
    S1 m K c (sigUpto 8) ⊢ iprop((∀ v, S1 m K c (sigUpto 13) -∗ Q v)
      -∗ wp frame (wpE (defs₀ (F := F)) 𝒱₀ (c : Thread nD τ) none) Set.univ
        (k0_part3 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2 v53) Q) := by
  rw [k0_part3_eq_skeleton]; unfold k0_part3_skel
  simp only [semSignalWord, semSignalHereWord, semWaitWord, Prog.lift, Prog.bind_op, Prog.bind_ret, Prog.pure_eq_ret, wp_deviceId]
  iintro H Hk
  iapply (step_signal m K c 8 (sigUpto 8) (sigUpto 9) (by decide) (by decide) _ (dev_at c 8 (k0_dev9_eq c) _) _ (by rfl) _ (by rfl)) $$ [H]; · iexact H
  iintro H
  iapply (step_signal m K c 9 (sigUpto 9) (sigUpto 10) (by decide) (by decide) _ (dev_at c 9 (k0_dev10_eq c) _) _ (by rfl) _ (by rfl)) $$ [H]; · iexact H
  iintro H
  iapply (step_signal m K c 10 (sigUpto 10) (sigUpto 11) (by decide) (by decide) _ (dev_at c 10 (k0_dev11_eq c) _) _ (by rfl) _ (by rfl)) $$ [H]; · iexact H
  iintro H
  iapply (step_signal m K c 11 (sigUpto 11) (sigUpto 12) (by decide) (by decide) _ (dev_at c 11 (k0_dev12_eq c) _) _ (by rfl) _ (by rfl)) $$ [H]; · iexact H
  iintro H
  iapply (step_signal m K c 12 (sigUpto 12) (sigUpto 13) (by decide) (by decide) _ (dev_at c 12 (k0_dev13_eq c) _) _ (by rfl) _ (by rfl)) $$ [H]; · iexact H
  iintro H
  rw [wp_ret]; imodintro
  iapply Hk
  iexact H

/-- The last two ready units, the operand copies and their waits, the two operands read. -/
theorem part4_spec (v2 v82 : BitVec 32) {Q : (Σ' (v108 : FVec F S64x1024 .f32) (v113 : FVec F S64x1024 .f32), F .f32) → sProp 𝕄} :
    iprop(S1 m K c (sigUpto 13) ∗ levAts L lv ∗ C0 m c) ⊢ iprop((∀ v, ⌜v = ⟨k0_pay2 (xAt m c) (wAt m c), k0_pay3 (xAt m c) (wAt m c), Scalar.ofBits .f32 0x3F4C422A#32⟩⌝ ∗ records m K ∗ Ow c (owedRcv c Finset.univ) ∗ C1 m c -∗ Q v)
      -∗ wp frame (wpE (defs₀ (F := F)) 𝒱₀ (c : Thread nD τ) none) Set.univ
        (k0_part4 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2 v82) Q) := by
  rw [k0_part4_eq_skeleton]; unfold k0_part4_skel
  simp only [semSignalWord, semSignalHereWord, semWaitWord, Prog.lift, Prog.bind_op, Prog.bind_ret, Prog.pure_eq_ret, wp_deviceId]
  iintro ⟨H, #Hlev, HC⟩ Hk
  iapply (step_signal m K c 13 (sigUpto 13) (sigUpto 14) (by decide) (by decide) _ (dev_at c 13 (k0_dev14_eq c) _) _ (by rfl) _ (by rfl)) $$ [H]; · iexact H
  iintro H
  iapply (step_signal m K c 14 (sigUpto 14) (sigUpto 15) (by decide) (by decide) _ (dev_at c 14 (k0_dev15_eq c) _) _ (by rfl) _ (by rfl)) $$ [H]; · iexact H
  iintro H
  rw [show sigUpto 15 = Finset.univ by decide]
  unfold S1 C0
  icases H with ⟨#HK, Ho, -⟩
  icases HC with ⟨⟨Htx, Hax, Hxa, Hx⟩, Htw, Haw, Hwa, Hw⟩
  rw [Finset.compl_univ, owedRdy_empty, add_zero]
  iapply (step_copy_x m K c _ (by rfl)) $$ [Htx Hxa Hx]
  · isplitr; · iexact HK
    isplitl [Htx]; · iexact Htx
    isplitl [Hxa]; · iexact Hxa
    iexact Hx
  iintro Hcx
  iapply (step_copy_w m K c _ (by rfl)) $$ [Htw Hwa Hw]
  · isplitr; · iexact HK
    isplitl [Htw]; · iexact Htw
    isplitl [Hwa]; · iexact Hwa
    iexact Hw
  iintro Hcw
  iapply (step_wait m K c iCpx (k' := Nx) (wpE_waitDma2_eq 𝒱₀ (c : Thread nD τ) none Set.univ) units_cpx.symm (owedRcv c Finset.univ)
    (mayWait_below c _ (by show 0 < 2; decide) _)) $$ [Ho Hcx Hax]
  · isplitr; · iexact HK
    isplitr; · iexact Hlev
    isplitl [Ho]; · iexact Ho
    isplitl [Hcx]; · ihave Hcx := (Entails.of_eq (congrArg (fun k => (cred (tallyAt (cpxCell c) () k) : sProp 𝕄)) units_cpx.symm)) $$ Hcx; iexact Hcx
    iexact Hax
  iintro ⟨Ho, Hzx, Hp⟩
  ihave Hp := (Entails.of_eq (show pay m c (csem iCpx) = _ from pay_cpx m c)) $$ Hp
  unfold cpxPay
  icases Hp with ⟨Hx, Hxa⟩
  iapply (step_wait m K c iCpw (k' := Nw) (wpE_waitDma2_eq 𝒱₀ (c : Thread nD τ) none Set.univ) units_cpw.symm (owedRcv c Finset.univ)
    (mayWait_below c _ (by show 0 < 2; decide) _)) $$ [Ho Hcw Haw]
  · isplitr; · iexact HK
    isplitr; · iexact Hlev
    isplitl [Ho]; · iexact Ho
    isplitl [Hcw]; · ihave Hcw := (Entails.of_eq (congrArg (fun k => (cred (tallyAt (cpwCell c) () k) : sProp 𝕄)) units_cpw.symm)) $$ Hcw; iexact Hcw
    iexact Haw
  iintro ⟨Ho, Hzw, Hp⟩
  ihave Hp := (Entails.of_eq (show pay m c (csem iCpw) = _ from pay_cpw m c)) $$ Hp
  unfold cpwPay
  icases Hp with ⟨Hw, Hwa⟩
  iapply (step_load_x c (xAt m c)) $$ [Hx]; · iexact Hx
  iintro Hx
  iapply (step_load_w c (wAt m c)) $$ [Hw]; · iexact Hw
  iintro Hw
  rw [wp_ret]; imodintro
  iapply Hk
  unfold C1
  isplitr; · ipureintro; rfl
  isplitr; · iexact HK
  isplitl [Ho]; · iexact Ho
  isplitl [Hzx Hxa Hx]
  · isplitl [Hzx]; · iexact Hzx
    isplitl [Hxa]; · iexact Hxa
    iexact Hx
  isplitl [Hzw]; · iexact Hzw
  isplitl [Hwa]; · iexact Hwa
  iexact Hw

/-- The first five slabs. -/
theorem part5_spec {Q : (Σ' (v119 : FVec F S64x1024 .f32), FVec F S1x64x64 .bf16) → sProp 𝕄} :
    Ys m c (slabUpto 0) ⊢ iprop((∀ v, ⌜v.1 = act m c ∧ ∀ x : S1x64x64.Idx, v.2 x = ybAt m c (ix3 (5 : Fin 16) (x 1 : Fin 64) (x 2 : Fin 64))⌝ ∗ Ys m c (slabUpto 5) -∗ Q v)
      -∗ wp frame (wpE (defs₀ (F := F)) 𝒱₀ (c : Thread nD τ) none) Set.univ
        (k0_part5 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 (k0_pay2 (xAt m c) (wAt m c)) (k0_pay3 (xAt m c) (wAt m c)) (Scalar.ofBits .f32 0x3F4C422A#32)) Q) := by
  rw [k0_part5_eq_skeleton]; unfold k0_part5_skel
  simp only [semSignalWord, semSignalHereWord, semWaitWord, Prog.lift, Prog.bind_op, Prog.bind_ret, Prog.pure_eq_ret, wp_deviceId]
  iintro H Hk
  iapply (step_slab_load m c 0 (slabUpto 0) (by decide) _ (by rfl)) $$ [H]; · iexact H
  iintro %_ H
  iapply (step_slab_store m c 0 (slabUpto 0) (slabUpto 1) (by decide) (by decide) _ (by rfl) _ _ (fun x => slab_pay m c 0 _ (by rfl) _ _ x)) $$ [H]; · iexact H
  iintro H
  iapply (step_slab_load m c 1 (slabUpto 1) (by decide) _ (by rfl)) $$ [H]; · iexact H
  iintro %_ H
  iapply (step_slab_store m c 1 (slabUpto 1) (slabUpto 2) (by decide) (by decide) _ (by rfl) _ _ (fun x => slab_pay m c 1 _ (by rfl) _ _ x)) $$ [H]; · iexact H
  iintro H
  iapply (step_slab_load m c 2 (slabUpto 2) (by decide) _ (by rfl)) $$ [H]; · iexact H
  iintro %_ H
  iapply (step_slab_store m c 2 (slabUpto 2) (slabUpto 3) (by decide) (by decide) _ (by rfl) _ _ (fun x => slab_pay m c 2 _ (by rfl) _ _ x)) $$ [H]; · iexact H
  iintro H
  iapply (step_slab_load m c 3 (slabUpto 3) (by decide) _ (by rfl)) $$ [H]; · iexact H
  iintro %_ H
  iapply (step_slab_store m c 3 (slabUpto 3) (slabUpto 4) (by decide) (by decide) _ (by rfl) _ _ (fun x => slab_pay m c 3 _ (by rfl) _ _ x)) $$ [H]; · iexact H
  iintro H
  iapply (step_slab_load m c 4 (slabUpto 4) (by decide) _ (by rfl)) $$ [H]; · iexact H
  iintro %_ H
  iapply (step_slab_store m c 4 (slabUpto 4) (slabUpto 5) (by decide) (by decide) _ (by rfl) _ _ (fun x => slab_pay m c 4 _ (by rfl) _ _ x)) $$ [H]; · iexact H
  iintro H
  iapply (step_slab_load m c 5 (slabUpto 5) (by decide) _ (by rfl)) $$ [H]; · iexact H
  iintro %_ H
  rw [wp_ret]; imodintro
  iapply Hk
  isplitr; · ipureintro; exact ⟨rfl, fun x => slab_pay m c 5 _ (by rfl) _ _ x⟩
  iexact H

/-- Seven more slabs. -/
theorem part6_spec (v149 : FVec F S1x64x64 .bf16) (hv : ∀ x : S1x64x64.Idx, v149 x = ybAt m c (ix3 (5 : Fin 16) (x 1 : Fin 64) (x 2 : Fin 64))) {Q : FVec F S64x64 .bf16 → sProp 𝕄} :
    Ys m c (slabUpto 5) ⊢ iprop((∀ v, ⌜v = k0_pay17 (act m c)⌝ ∗ Ys m c (slabUpto 12) -∗ Q v)
      -∗ wp frame (wpE (defs₀ (F := F)) 𝒱₀ (c : Thread nD τ) none) Set.univ
        (k0_part6 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 (act m c) v149) Q) := by
  rw [k0_part6_eq_skeleton]; unfold k0_part6_skel
  simp only [semSignalWord, semSignalHereWord, semWaitWord, Prog.lift, Prog.bind_op, Prog.bind_ret, Prog.pure_eq_ret, wp_deviceId]
  iintro H Hk
  iapply (step_slab_store m c 5 (slabUpto 5) (slabUpto 6) (by decide) (by decide) _ (by rfl) _ _ hv) $$ [H]; · iexact H
  iintro H
  iapply (step_slab_load m c 6 (slabUpto 6) (by decide) _ (by rfl)) $$ [H]; · iexact H
  iintro %_ H
  iapply (step_slab_store m c 6 (slabUpto 6) (slabUpto 7) (by decide) (by decide) _ (by rfl) _ _ (fun x => slab_pay m c 6 _ (by rfl) _ _ x)) $$ [H]; · iexact H
  iintro H
  iapply (step_slab_load m c 7 (slabUpto 7) (by decide) _ (by rfl)) $$ [H]; · iexact H
  iintro %_ H
  iapply (step_slab_store m c 7 (slabUpto 7) (slabUpto 8) (by decide) (by decide) _ (by rfl) _ _ (fun x => slab_pay m c 7 _ (by rfl) _ _ x)) $$ [H]; · iexact H
  iintro H
  iapply (step_slab_load m c 8 (slabUpto 8) (by decide) _ (by rfl)) $$ [H]; · iexact H
  iintro %_ H
  iapply (step_slab_store m c 8 (slabUpto 8) (slabUpto 9) (by decide) (by decide) _ (by rfl) _ _ (fun x => slab_pay m c 8 _ (by rfl) _ _ x)) $$ [H]; · iexact H
  iintro H
  iapply (step_slab_load m c 9 (slabUpto 9) (by decide) _ (by rfl)) $$ [H]; · iexact H
  iintro %_ H
  iapply (step_slab_store m c 9 (slabUpto 9) (slabUpto 10) (by decide) (by decide) _ (by rfl) _ _ (fun x => slab_pay m c 9 _ (by rfl) _ _ x)) $$ [H]; · iexact H
  iintro H
  iapply (step_slab_load m c 10 (slabUpto 10) (by decide) _ (by rfl)) $$ [H]; · iexact H
  iintro %_ H
  iapply (step_slab_store m c 10 (slabUpto 10) (slabUpto 11) (by decide) (by decide) _ (by rfl) _ _ (fun x => slab_pay m c 10 _ (by rfl) _ _ x)) $$ [H]; · iexact H
  iintro H
  iapply (step_slab_load m c 11 (slabUpto 11) (by decide) _ (by rfl)) $$ [H]; · iexact H
  iintro %_ H
  iapply (step_slab_store m c 11 (slabUpto 11) (slabUpto 12) (by decide) (by decide) _ (by rfl) _ _ (fun x => slab_pay m c 11 _ (by rfl) _ _ x)) $$ [H]; · iexact H
  iintro H
  rw [wp_ret]; imodintro
  iapply Hk
  isplitr; · ipureintro; rfl
  iexact H

/-- The last four slabs, the own rows, the barrier wait, the first ready wait. -/
theorem part7_spec (v2 : BitVec 32) {Q : (Σ' (v207 : BitVec 32), BitVec 32) → sProp 𝕄} :
    iprop(Ys m c (slabUpto 12) ∗ records m K ∗ levAts L lv ∗ Ow c (owedRcv c Finset.univ) ∗ N0 c) ⊢ iprop((∀ v, P' m K c (upto 0) (upto 1) 0 ∗ N1 m c -∗ Q v)
      -∗ wp frame (wpE (defs₀ (F := F)) 𝒱₀ (c : Thread nD τ) none) Set.univ
        (k0_part7 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2 (SemArray.scalar (sig.barrier 0 rfl)) (act m c) (k0_pay17 (act m c))) Q) := by
  rw [k0_part7_eq_skeleton]; unfold k0_part7_skel
  simp only [semSignalWord, semSignalHereWord, semWaitWord, Prog.lift, Prog.bind_op, Prog.bind_ret, Prog.pure_eq_ret, wp_deviceId]
  iintro ⟨H, #HK, #Hlev, Ho, HN⟩ Hk
  iapply (step_slab_load m c 12 (slabUpto 12) (by decide) _ (by rfl)) $$ [H]; · iexact H
  iintro %_ H
  iapply (step_slab_store m c 12 (slabUpto 12) (slabUpto 13) (by decide) (by decide) _ (by rfl) _ _ (fun x => slab_pay m c 12 _ (by rfl) _ _ x)) $$ [H]; · iexact H
  iintro H
  iapply (step_slab_load m c 13 (slabUpto 13) (by decide) _ (by rfl)) $$ [H]; · iexact H
  iintro %_ H
  iapply (step_slab_store m c 13 (slabUpto 13) (slabUpto 14) (by decide) (by decide) _ (by rfl) _ _ (fun x => slab_pay m c 13 _ (by rfl) _ _ x)) $$ [H]; · iexact H
  iintro H
  iapply (step_slab_load m c 14 (slabUpto 14) (by decide) _ (by rfl)) $$ [H]; · iexact H
  iintro %_ H
  iapply (step_slab_store m c 14 (slabUpto 14) (slabUpto 15) (by decide) (by decide) _ (by rfl) _ _ (fun x => slab_pay m c 14 _ (by rfl) _ _ x)) $$ [H]; · iexact H
  iintro H
  iapply (step_slab_load m c 15 (slabUpto 15) (by decide) _ (by rfl)) $$ [H]; · iexact H
  iintro %_ H
  iapply (step_slab_store m c 15 (slabUpto 15) (slabUpto 16) (by decide) (by decide) _ (by rfl) _ _ (fun x => slab_pay m c 15 _ (by rfl) _ _ x)) $$ [H]; · iexact H
  iintro H
  rw [show slabUpto 16 = Finset.univ by decide]
  unfold Ys N0
  ihave H := (phase_full _ _) $$ H
  ihave H := (Entails.of_eq (split_others c (fun j => yPts c j (ybAt m c)))) $$ H
  icases H with ⟨Hyc, Hy⟩
  icases HN with ⟨⟨%f, Hoc⟩, ⟨Hcb, Hab⟩, HW, HT⟩
  iapply (step_own_load m c _ (k0_off1_eq c) (k0_off1_inb c)) $$ [Hyc]; · iexact Hyc
  iintro Hyc
  iapply (step_own_peek c f _ (k0_off2_eq c) (k0_off2_inb c)) $$ [Hoc]; · iexact Hoc
  iintro %_ Hoc
  iapply (step_own_store m c f _ (k0_off2_eq c) (k0_off2_inb c) _ (k0_off1_eq c) (k0_off1_inb c)) $$ [Hoc]; · iexact Hoc
  iintro Hoc
  iapply (step_wait m K c iBar (k' := 1) (wpE_semWait_eq 𝒱₀ (c : Thread nD τ) none Set.univ) rfl (owedRcv c Finset.univ)
    (mayWait_below c _ (by show 1 < 2; decide) _)) $$ [Ho Hcb Hab]
  · isplitr; · iexact HK
    isplitr; · iexact Hlev
    isplitl [Ho]; · iexact Ho
    isplitl [Hcb]; · iexact Hcb
    iexact Hab
  iintro ⟨Ho, Hzb, -⟩
  ihave H := (to_P m K c) $$ [Ho Hy HW HT]
  · isplitr; · iexact HK
    isplitr; · iexact Hlev
    isplitl [Ho]; · iexact Ho
    isplitl [Hy]; · iexact Hy
    isplitl [HW]; · iexact HW
    iexact HT
  iapply (step_ready m K c 0 (upto 0) (upto 1) (by decide) (by decide) _ (by rfl) _ (by rfl)) $$ [H]; · iexact H
  iintro H
  rw [wp_ret]; imodintro
  iapply Hk
  unfold N1
  isplitl [H]; · iexact H
  isplitl [Hyc]; · iexact Hyc
  isplitl [Hoc]; · iexact Hoc
  iexact Hzb

/-- Two blocks sent to the two devices at one distance. -/
theorem part8_spec (v2 v207 c1 : BitVec 32) {Q : (Σ' (v239 : BitVec 32), BitVec 32) → sProp 𝕄} :
    P' m K c (upto 0) (upto 1) 0 ⊢ iprop((∀ v, P' m K c (upto 2) (upto 3) 1 -∗ Q v)
      -∗ wp frame (wpE (defs₀ (F := F)) 𝒱₀ (c : Thread nD τ) none) Set.univ
        (k0_part8 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2 v207 c1) Q) := by
  rw [k0_part8_eq_skeleton]; unfold k0_part8_skel
  simp only [semSignalWord, semSignalHereWord, semWaitWord, Prog.lift, Prog.bind_op, Prog.bind_ret, Prog.pure_eq_ret, wp_deviceId]
  iintro H Hk
  iapply (step_send m K c 0 (upto 0) (upto 1) (by decide) (by decide) _ (dev_at c 0 (k0_dev16_eq c) _) _ _ (by rfl) (by rfl) _ (k0_off3_eq c) (k0_off3_inb c) _ (slab_at c 0) (k0_off4_inb c 0)) $$ [H]; · iexact H
  iintro H
  iapply (step_ready m K c 14 (upto 1) (upto 2) (by decide) (by decide) _ (by rfl) _ (by rfl)) $$ [H]; · iexact H
  iintro H
  iapply (step_send m K c 14 (upto 1) (upto 2) (by decide) (by decide) _ (dev_at c 14 (k0_dev17_eq c) _) _ _ (by rfl) (by rfl) _ (k0_off3_eq c) (k0_off3_inb c) _ (slab_at c 14) (k0_off4_inb c 14)) $$ [H]; · iexact H
  iintro H
  iapply (step_ready m K c 1 (upto 2) (upto 3) (by decide) (by decide) _ (by rfl) _ (by rfl)) $$ [H]; · iexact H
  iintro H
  rw [wp_ret]; imodintro
  iapply Hk
  iexact H

/-- Two blocks sent to the two devices at one distance. -/
theorem part9_spec (v2 v239 c0 : BitVec 32) {Q : PUnit → sProp 𝕄} :
    P' m K c (upto 2) (upto 3) 1 ⊢ iprop((∀ v, P' m K c (upto 4) (upto 5) 2 -∗ Q v)
      -∗ wp frame (wpE (defs₀ (F := F)) 𝒱₀ (c : Thread nD τ) none) Set.univ
        (k0_part9 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2 v239 c0) Q) := by
  rw [k0_part9_eq_skeleton]; unfold k0_part9_skel
  simp only [semSignalWord, semSignalHereWord, semWaitWord, Prog.lift, Prog.bind_op, Prog.bind_ret, Prog.pure_eq_ret, wp_deviceId]
  iintro H Hk
  iapply (step_send m K c 1 (upto 2) (upto 3) (by decide) (by decide) _ (dev_at c 1 (k0_dev18_eq c) _) _ _ (by rfl) (by rfl) _ (k0_off3_eq c) (k0_off3_inb c) _ (slab_at c 1) (k0_off4_inb c 1)) $$ [H]; · iexact H
  iintro H
  iapply (step_ready m K c 13 (upto 3) (upto 4) (by decide) (by decide) _ (by rfl) _ (by rfl)) $$ [H]; · iexact H
  iintro H
  iapply (step_send m K c 13 (upto 3) (upto 4) (by decide) (by decide) _ (dev_at c 13 (k0_dev19_eq c) _) _ _ (by rfl) (by rfl) _ (k0_off3_eq c) (k0_off3_inb c) _ (slab_at c 13) (k0_off4_inb c 13)) $$ [H]; · iexact H
  iintro H
  iapply (step_ready m K c 2 (upto 4) (upto 5) (by decide) (by decide) _ (by rfl) _ (by rfl)) $$ [H]; · iexact H
  iintro H
  rw [wp_ret]; imodintro
  iapply Hk
  iexact H

/-- Two blocks sent to the two devices at one distance. -/
theorem part10_spec (v2 : BitVec 32) {Q : PUnit → sProp 𝕄} :
    P' m K c (upto 4) (upto 5) 2 ⊢ iprop((∀ v, P' m K c (upto 6) (upto 7) 3 -∗ Q v)
      -∗ wp frame (wpE (defs₀ (F := F)) 𝒱₀ (c : Thread nD τ) none) Set.univ
        (k0_part10 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2) Q) := by
  rw [k0_part10_eq_skeleton]; unfold k0_part10_skel
  simp only [semSignalWord, semSignalHereWord, semWaitWord, Prog.lift, Prog.bind_op, Prog.bind_ret, Prog.pure_eq_ret, wp_deviceId]
  iintro H Hk
  iapply (step_send m K c 2 (upto 4) (upto 5) (by decide) (by decide) _ (dev_at c 2 (k0_dev20_eq c) _) _ _ (by rfl) (by rfl) _ (k0_off3_eq c) (k0_off3_inb c) _ (slab_at c 2) (k0_off4_inb c 2)) $$ [H]; · iexact H
  iintro H
  iapply (step_ready m K c 12 (upto 5) (upto 6) (by decide) (by decide) _ (by rfl) _ (by rfl)) $$ [H]; · iexact H
  iintro H
  iapply (step_send m K c 12 (upto 5) (upto 6) (by decide) (by decide) _ (dev_at c 12 (k0_dev21_eq c) _) _ _ (by rfl) (by rfl) _ (k0_off3_eq c) (k0_off3_inb c) _ (slab_at c 12) (k0_off4_inb c 12)) $$ [H]; · iexact H
  iintro H
  iapply (step_ready m K c 3 (upto 6) (upto 7) (by decide) (by decide) _ (by rfl) _ (by rfl)) $$ [H]; · iexact H
  iintro H
  rw [wp_ret]; imodintro
  iapply Hk
  iexact H

/-- Two blocks sent to the two devices at one distance. -/
theorem part11_spec (v2 : BitVec 32) {Q : PUnit → sProp 𝕄} :
    P' m K c (upto 6) (upto 7) 3 ⊢ iprop((∀ v, P' m K c (upto 8) (upto 9) 4 -∗ Q v)
      -∗ wp frame (wpE (defs₀ (F := F)) 𝒱₀ (c : Thread nD τ) none) Set.univ
        (k0_part11 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2) Q) := by
  rw [k0_part11_eq_skeleton]; unfold k0_part11_skel
  simp only [semSignalWord, semSignalHereWord, semWaitWord, Prog.lift, Prog.bind_op, Prog.bind_ret, Prog.pure_eq_ret, wp_deviceId]
  iintro H Hk
  iapply (step_send m K c 3 (upto 6) (upto 7) (by decide) (by decide) _ (dev_at c 3 (k0_dev22_eq c) _) _ _ (by rfl) (by rfl) _ (k0_off3_eq c) (k0_off3_inb c) _ (slab_at c 3) (k0_off4_inb c 3)) $$ [H]; · iexact H
  iintro H
  iapply (step_ready m K c 11 (upto 7) (upto 8) (by decide) (by decide) _ (by rfl) _ (by rfl)) $$ [H]; · iexact H
  iintro H
  iapply (step_send m K c 11 (upto 7) (upto 8) (by decide) (by decide) _ (dev_at c 11 (k0_dev23_eq c) _) _ _ (by rfl) (by rfl) _ (k0_off3_eq c) (k0_off3_inb c) _ (slab_at c 11) (k0_off4_inb c 11)) $$ [H]; · iexact H
  iintro H
  iapply (step_ready m K c 4 (upto 8) (upto 9) (by decide) (by decide) _ (by rfl) _ (by rfl)) $$ [H]; · iexact H
  iintro H
  rw [wp_ret]; imodintro
  iapply Hk
  iexact H

/-- Two blocks sent to the two devices at one distance. -/
theorem part12_spec (v2 : BitVec 32) {Q : PUnit → sProp 𝕄} :
    P' m K c (upto 8) (upto 9) 4 ⊢ iprop((∀ v, P' m K c (upto 10) (upto 11) 5 -∗ Q v)
      -∗ wp frame (wpE (defs₀ (F := F)) 𝒱₀ (c : Thread nD τ) none) Set.univ
        (k0_part12 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2) Q) := by
  rw [k0_part12_eq_skeleton]; unfold k0_part12_skel
  simp only [semSignalWord, semSignalHereWord, semWaitWord, Prog.lift, Prog.bind_op, Prog.bind_ret, Prog.pure_eq_ret, wp_deviceId]
  iintro H Hk
  iapply (step_send m K c 4 (upto 8) (upto 9) (by decide) (by decide) _ (dev_at c 4 (k0_dev24_eq c) _) _ _ (by rfl) (by rfl) _ (k0_off3_eq c) (k0_off3_inb c) _ (slab_at c 4) (k0_off4_inb c 4)) $$ [H]; · iexact H
  iintro H
  iapply (step_ready m K c 10 (upto 9) (upto 10) (by decide) (by decide) _ (by rfl) _ (by rfl)) $$ [H]; · iexact H
  iintro H
  iapply (step_send m K c 10 (upto 9) (upto 10) (by decide) (by decide) _ (dev_at c 10 (k0_dev25_eq c) _) _ _ (by rfl) (by rfl) _ (k0_off3_eq c) (k0_off3_inb c) _ (slab_at c 10) (k0_off4_inb c 10)) $$ [H]; · iexact H
  iintro H
  iapply (step_ready m K c 5 (upto 10) (upto 11) (by decide) (by decide) _ (by rfl) _ (by rfl)) $$ [H]; · iexact H
  iintro H
  rw [wp_ret]; imodintro
  iapply Hk
  iexact H

/-- Two blocks sent to the two devices at one distance. -/
theorem part13_spec (v2 : BitVec 32) {Q : PUnit → sProp 𝕄} :
    P' m K c (upto 10) (upto 11) 5 ⊢ iprop((∀ v, P' m K c (upto 12) (upto 13) 6 -∗ Q v)
      -∗ wp frame (wpE (defs₀ (F := F)) 𝒱₀ (c : Thread nD τ) none) Set.univ
        (k0_part13 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2) Q) := by
  rw [k0_part13_eq_skeleton]; unfold k0_part13_skel
  simp only [semSignalWord, semSignalHereWord, semWaitWord, Prog.lift, Prog.bind_op, Prog.bind_ret, Prog.pure_eq_ret, wp_deviceId]
  iintro H Hk
  iapply (step_send m K c 5 (upto 10) (upto 11) (by decide) (by decide) _ (dev_at c 5 (k0_dev26_eq c) _) _ _ (by rfl) (by rfl) _ (k0_off3_eq c) (k0_off3_inb c) _ (slab_at c 5) (k0_off4_inb c 5)) $$ [H]; · iexact H
  iintro H
  iapply (step_ready m K c 9 (upto 11) (upto 12) (by decide) (by decide) _ (by rfl) _ (by rfl)) $$ [H]; · iexact H
  iintro H
  iapply (step_send m K c 9 (upto 11) (upto 12) (by decide) (by decide) _ (dev_at c 9 (k0_dev27_eq c) _) _ _ (by rfl) (by rfl) _ (k0_off3_eq c) (k0_off3_inb c) _ (slab_at c 9) (k0_off4_inb c 9)) $$ [H]; · iexact H
  iintro H
  iapply (step_ready m K c 6 (upto 12) (upto 13) (by decide) (by decide) _ (by rfl) _ (by rfl)) $$ [H]; · iexact H
  iintro H
  rw [wp_ret]; imodintro
  iapply Hk
  iexact H

/-- The last three blocks sent. -/
theorem part14_spec (v2 : BitVec 32) {Q : PUnit → sProp 𝕄} :
    P' m K c (upto 12) (upto 13) 6 ⊢ iprop((∀ v, P m K c (upto 15) -∗ Q v)
      -∗ wp frame (wpE (defs₀ (F := F)) 𝒱₀ (c : Thread nD τ) none) Set.univ
        (k0_part14 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2) Q) := by
  rw [k0_part14_eq_skeleton]; unfold k0_part14_skel
  simp only [semSignalWord, semSignalHereWord, semWaitWord, Prog.lift, Prog.bind_op, Prog.bind_ret, Prog.pure_eq_ret, wp_deviceId]
  iintro H Hk
  iapply (step_send m K c 6 (upto 12) (upto 13) (by decide) (by decide) _ (dev_at c 6 (k0_dev28_eq c) _) _ _ (by rfl) (by rfl) _ (k0_off3_eq c) (k0_off3_inb c) _ (slab_at c 6) (k0_off4_inb c 6)) $$ [H]; · iexact H
  iintro H
  iapply (step_ready m K c 8 (upto 13) (upto 14) (by decide) (by decide) _ (by rfl) _ (by rfl)) $$ [H]; · iexact H
  iintro H
  iapply (step_send m K c 8 (upto 13) (upto 14) (by decide) (by decide) _ (dev_at c 8 (k0_dev29_eq c) _) _ _ (by rfl) (by rfl) _ (k0_off3_eq c) (k0_off3_inb c) _ (slab_at c 8) (k0_off4_inb c 8)) $$ [H]; · iexact H
  iintro H
  iapply (step_ready m K c 7 (upto 14) (upto 15) (by decide) (by decide) _ (by rfl) _ (by rfl)) $$ [H]; · iexact H
  iintro H
  iapply (step_send m K c 7 (upto 14) (upto 15) (by decide) (by decide) _ (dev_at c 7 (k0_dev30_eq c) _) _ _ (by rfl) (by rfl) _ (k0_off3_eq c) (k0_off3_inb c) _ (slab_at c 7) (k0_off4_inb c 7)) $$ [H]; · iexact H
  iintro H
  rw [wp_ret]; imodintro
  iapply Hk
  iexact H

/-- Blocks that have arrived. -/
theorem part15_spec (v2 : BitVec 32) {Q : BitVec 32 → sProp 𝕄} :
    R m K c (upto 0) ⊢ iprop((∀ v, R m K c (upto 2) -∗ Q v)
      -∗ wp frame (wpE (defs₀ (F := F)) 𝒱₀ (c : Thread nD τ) none) Set.univ
        (k0_part15 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2) Q) := by
  rw [k0_part15_eq_skeleton]; unfold k0_part15_skel
  simp only [semSignalWord, semSignalHereWord, semWaitWord, Prog.lift, Prog.bind_op, Prog.bind_ret, Prog.pure_eq_ret, wp_deviceId]
  iintro H Hk
  iapply (step_recv m K c 0 (upto 0) (upto 1) (by decide) (by decide) _ (by rfl) _ _ _ _) $$ [H]; · iexact H
  iintro H
  iapply (step_recv m K c 14 (upto 1) (upto 2) (by decide) (by decide) _ (by rfl) _ _ _ _) $$ [H]; · iexact H
  iintro H
  rw [wp_ret]; imodintro
  iapply Hk
  iexact H

/-- Blocks that have arrived. -/
theorem part16_spec (v2 c1 : BitVec 32) {Q : PUnit → sProp 𝕄} :
    R m K c (upto 2) ⊢ iprop((∀ v, R m K c (upto 5) -∗ Q v)
      -∗ wp frame (wpE (defs₀ (F := F)) 𝒱₀ (c : Thread nD τ) none) Set.univ
        (k0_part16 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2 c1) Q) := by
  rw [k0_part16_eq_skeleton]; unfold k0_part16_skel
  simp only [semSignalWord, semSignalHereWord, semWaitWord, Prog.lift, Prog.bind_op, Prog.bind_ret, Prog.pure_eq_ret, wp_deviceId]
  iintro H Hk
  iapply (step_recv m K c 1 (upto 2) (upto 3) (by decide) (by decide) _ (by rfl) _ _ _ _) $$ [H]; · iexact H
  iintro H
  iapply (step_recv m K c 13 (upto 3) (upto 4) (by decide) (by decide) _ (by rfl) _ _ _ _) $$ [H]; · iexact H
  iintro H
  iapply (step_recv m K c 2 (upto 4) (upto 5) (by decide) (by decide) _ (by rfl) _ _ _ _) $$ [H]; · iexact H
  iintro H
  rw [wp_ret]; imodintro
  iapply Hk
  iexact H

/-- Blocks that have arrived. -/
theorem part17_spec (v2 : BitVec 32) {Q : BitVec 32 → sProp 𝕄} :
    R m K c (upto 5) ⊢ iprop((∀ v, R m K c (upto 7) -∗ Q v)
      -∗ wp frame (wpE (defs₀ (F := F)) 𝒱₀ (c : Thread nD τ) none) Set.univ
        (k0_part17 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2) Q) := by
  rw [k0_part17_eq_skeleton]; unfold k0_part17_skel
  simp only [semSignalWord, semSignalHereWord, semWaitWord, Prog.lift, Prog.bind_op, Prog.bind_ret, Prog.pure_eq_ret, wp_deviceId]
  iintro H Hk
  iapply (step_recv m K c 12 (upto 5) (upto 6) (by decide) (by decide) _ (by rfl) _ _ _ _) $$ [H]; · iexact H
  iintro H
  iapply (step_recv m K c 3 (upto 6) (upto 7) (by decide) (by decide) _ (by rfl) _ _ _ _) $$ [H]; · iexact H
  iintro H
  rw [wp_ret]; imodintro
  iapply Hk
  iexact H

/-- Blocks that have arrived. -/
theorem part18_spec (v2 c1 : BitVec 32) {Q : PUnit → sProp 𝕄} :
    R m K c (upto 7) ⊢ iprop((∀ v, R m K c (upto 10) -∗ Q v)
      -∗ wp frame (wpE (defs₀ (F := F)) 𝒱₀ (c : Thread nD τ) none) Set.univ
        (k0_part18 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2 c1) Q) := by
  rw [k0_part18_eq_skeleton]; unfold k0_part18_skel
  simp only [semSignalWord, semSignalHereWord, semWaitWord, Prog.lift, Prog.bind_op, Prog.bind_ret, Prog.pure_eq_ret, wp_deviceId]
  iintro H Hk
  iapply (step_recv m K c 11 (upto 7) (upto 8) (by decide) (by decide) _ (by rfl) _ _ _ _) $$ [H]; · iexact H
  iintro H
  iapply (step_recv m K c 4 (upto 8) (upto 9) (by decide) (by decide) _ (by rfl) _ _ _ _) $$ [H]; · iexact H
  iintro H
  iapply (step_recv m K c 10 (upto 9) (upto 10) (by decide) (by decide) _ (by rfl) _ _ _ _) $$ [H]; · iexact H
  iintro H
  rw [wp_ret]; imodintro
  iapply Hk
  iexact H

/-- Blocks that have arrived. -/
theorem part19_spec (v2 : BitVec 32) {Q : BitVec 32 → sProp 𝕄} :
    R m K c (upto 10) ⊢ iprop((∀ v, R m K c (upto 12) -∗ Q v)
      -∗ wp frame (wpE (defs₀ (F := F)) 𝒱₀ (c : Thread nD τ) none) Set.univ
        (k0_part19 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2) Q) := by
  rw [k0_part19_eq_skeleton]; unfold k0_part19_skel
  simp only [semSignalWord, semSignalHereWord, semWaitWord, Prog.lift, Prog.bind_op, Prog.bind_ret, Prog.pure_eq_ret, wp_deviceId]
  iintro H Hk
  iapply (step_recv m K c 5 (upto 10) (upto 11) (by decide) (by decide) _ (by rfl) _ _ _ _) $$ [H]; · iexact H
  iintro H
  iapply (step_recv m K c 9 (upto 11) (upto 12) (by decide) (by decide) _ (by rfl) _ _ _ _) $$ [H]; · iexact H
  iintro H
  rw [wp_ret]; imodintro
  iapply Hk
  iexact H

/-- Blocks that have arrived. -/
theorem part20_spec (v2 c1 : BitVec 32) {Q : PUnit → sProp 𝕄} :
    R m K c (upto 12) ⊢ iprop((∀ v, R m K c (upto 15) -∗ Q v)
      -∗ wp frame (wpE (defs₀ (F := F)) 𝒱₀ (c : Thread nD τ) none) Set.univ
        (k0_part20 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c v2 c1) Q) := by
  rw [k0_part20_eq_skeleton]; unfold k0_part20_skel
  simp only [semSignalWord, semSignalHereWord, semWaitWord, Prog.lift, Prog.bind_op, Prog.bind_ret, Prog.pure_eq_ret, wp_deviceId]
  iintro H Hk
  iapply (step_recv m K c 6 (upto 12) (upto 13) (by decide) (by decide) _ (by rfl) _ _ _ _) $$ [H]; · iexact H
  iintro H
  iapply (step_recv m K c 8 (upto 13) (upto 14) (by decide) (by decide) _ (by rfl) _ _ _ _) $$ [H]; · iexact H
  iintro H
  iapply (step_recv m K c 7 (upto 14) (upto 15) (by decide) (by decide) _ (by rfl) _ _ _ _) $$ [H]; · iexact H
  iintro H
  rw [wp_ret]; imodintro
  iapply Hk
  iexact H

/-- Slabs whose transfer is done. -/
theorem part21_spec {Q : PUnit → sProp 𝕄} :
    G m K c (upto 0) ⊢ iprop((∀ v, G m K c (upto 5) -∗ Q v)
      -∗ wp frame (wpE (defs₀ (F := F)) 𝒱₀ (c : Thread nD τ) none) Set.univ
        (k0_part21 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c) Q) := by
  rw [k0_part21_eq_skeleton]; unfold k0_part21_skel
  simp only [semSignalWord, semSignalHereWord, semWaitWord, Prog.lift, Prog.bind_op, Prog.bind_ret, Prog.pure_eq_ret, wp_deviceId]
  iintro H Hk
  iapply (step_sent m K c 0 (upto 0) (upto 1) (by decide) (by decide) _ (by rfl) _ _ _ _) $$ [H]; · iexact H
  iintro H
  iapply (step_sent m K c 14 (upto 1) (upto 2) (by decide) (by decide) _ (by rfl) _ _ _ _) $$ [H]; · iexact H
  iintro H
  iapply (step_sent m K c 1 (upto 2) (upto 3) (by decide) (by decide) _ (by rfl) _ _ _ _) $$ [H]; · iexact H
  iintro H
  iapply (step_sent m K c 13 (upto 3) (upto 4) (by decide) (by decide) _ (by rfl) _ _ _ _) $$ [H]; · iexact H
  iintro H
  iapply (step_sent m K c 2 (upto 4) (upto 5) (by decide) (by decide) _ (by rfl) _ _ _ _) $$ [H]; · iexact H
  iintro H
  rw [wp_ret]; imodintro
  iapply Hk
  iexact H

/-- Slabs whose transfer is done. -/
theorem part22_spec {Q : PUnit → sProp 𝕄} :
    G m K c (upto 5) ⊢ iprop((∀ v, G m K c (upto 10) -∗ Q v)
      -∗ wp frame (wpE (defs₀ (F := F)) 𝒱₀ (c : Thread nD τ) none) Set.univ
        (k0_part22 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c) Q) := by
  rw [k0_part22_eq_skeleton]; unfold k0_part22_skel
  simp only [semSignalWord, semSignalHereWord, semWaitWord, Prog.lift, Prog.bind_op, Prog.bind_ret, Prog.pure_eq_ret, wp_deviceId]
  iintro H Hk
  iapply (step_sent m K c 12 (upto 5) (upto 6) (by decide) (by decide) _ (by rfl) _ _ _ _) $$ [H]; · iexact H
  iintro H
  iapply (step_sent m K c 3 (upto 6) (upto 7) (by decide) (by decide) _ (by rfl) _ _ _ _) $$ [H]; · iexact H
  iintro H
  iapply (step_sent m K c 11 (upto 7) (upto 8) (by decide) (by decide) _ (by rfl) _ _ _ _) $$ [H]; · iexact H
  iintro H
  iapply (step_sent m K c 4 (upto 8) (upto 9) (by decide) (by decide) _ (by rfl) _ _ _ _) $$ [H]; · iexact H
  iintro H
  iapply (step_sent m K c 10 (upto 9) (upto 10) (by decide) (by decide) _ (by rfl) _ _ _ _) $$ [H]; · iexact H
  iintro H
  rw [wp_ret]; imodintro
  iapply Hk
  iexact H

/-- Slabs whose transfer is done. -/
theorem part23_spec {Q : PUnit → sProp 𝕄} :
    G m K c (upto 10) ⊢ iprop((∀ v, G m K c (upto 15) -∗ Q v)
      -∗ wp frame (wpE (defs₀ (F := F)) 𝒱₀ (c : Thread nD τ) none) Set.univ
        (k0_part23 (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
          (xM : Memref sig .tc .vmem S64x1024 .f32) (Memref.isWhole_whole _) (wM : Memref sig .tc .vmem S1024x1024 .f32) (Memref.isWhole_whole _) (yM : Memref sig .tc .vmem S16x64x64 .bf16) (Memref.isWhole_whole _)
          cc0_scratch3 cc0_scratch4 cc0_scratch5 cc0_scratch6 c) Q) := by
  rw [k0_part23_eq_skeleton]; unfold k0_part23_skel
  simp only [semSignalWord, semSignalHereWord, semWaitWord, Prog.lift, Prog.bind_op, Prog.bind_ret, Prog.pure_eq_ret, wp_deviceId]
  iintro H Hk
  iapply (step_sent m K c 5 (upto 10) (upto 11) (by decide) (by decide) _ (by rfl) _ _ _ _) $$ [H]; · iexact H
  iintro H
  iapply (step_sent m K c 9 (upto 11) (upto 12) (by decide) (by decide) _ (by rfl) _ _ _ _) $$ [H]; · iexact H
  iintro H
  iapply (step_sent m K c 6 (upto 12) (upto 13) (by decide) (by decide) _ (by rfl) _ _ _ _) $$ [H]; · iexact H
  iintro H
  iapply (step_sent m K c 8 (upto 13) (upto 14) (by decide) (by decide) _ (by rfl) _ _ _ _) $$ [H]; · iexact H
  iintro H
  iapply (step_sent m K c 7 (upto 14) (upto 15) (by decide) (by decide) _ (by rfl) _ _ _ _) $$ [H]; · iexact H
  iintro H
  rw [wp_ret]; imodintro
  iapply Hk
  iexact H

end Body

end Cert.RingProof

end
-- ==== Proof.Whole.lean ====
/-
The whole body of the kernel: its parts in sequence, from the state before the grid's one point to the state after it.
-/
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## The orders of the steps -/

section Whole
variable (K : Dev nD × CI → ℕ) (c : Dev nD)

/-- What one device's program starts from. -/
def Pre : sProp 𝕄 :=
  iprop(S0 m K c ∗ levAts L lv ∗ C0 m c ∗ (bigSep Finset.univ fun j : Dev nD => iprop(∃ f, yPts (F := F) c j f)) ∗ N0 c
    ∗ (bigSep Finset.univ fun r : Fin 15 => iprop(cred (tallyAt (rcvCell c r) () Nb) ∗ atPos ER (rcvCell c r) 0 ∅ 0))
    ∗ bigSep Finset.univ fun r : Fin 15 => atPos ER (sndCell c r) 0 ∅ 0)
/-- What it leaves: nothing owed, every cell closed, its slabs and its rows filled. -/
def Post : sProp 𝕄 :=
  iprop(Ow c 0 ∗ C1 m c ∗ N1 m c ∗ (bigSep Finset.univ fun r : Fin 15 => semVal (rdyCell c r.rev) 0)
    ∗ (bigSep Finset.univ fun r : Fin 15 => iprop(semVal (rcvCell c r) 0 ∗ oPts c (bwd c r) (outAt m c)))
    ∗ bigSep Finset.univ fun r : Fin 15 => iprop(semVal (sndCell c r) 0 ∗ yPts c (fwd c r) (ybAt m c)))

/-- Everything sent, the arrivals can be awaited. -/
theorem to_R : iprop(P m K c (upto 15) ∗ bigSep Finset.univ fun r : Fin 15 => iprop(cred (tallyAt (rcvCell c r) () Nb) ∗ atPos ER (rcvCell c r) 0 ∅ 0))
    ⊢ iprop(R m K c (upto 0) ∗ (bigSep Finset.univ fun r : Fin 15 => semVal (rdyCell c r.rev) 0) ∗ bigSep Finset.univ fun r : Fin 15 => cred (tallyAt (sndCell c r) () Nb)) := by
  rw [show upto 0 = ∅ by decide, show upto 15 = Finset.univ by decide]
  unfold P R
  rw [Finset.compl_univ, owedRcv_empty]
  iintro ⟨⟨#HK, #Hlev, Ho, HW, HT⟩, HR⟩
  isplitl [Ho HR]
  · isplitr; · iexact HK
    isplitr; · iexact Hlev
    isplitl [Ho]; · iexact Ho
    iapply (phase_zero _ _); iexact HR
  isplitl [HW]; · iapply (phase_full _ _); iexact HW
  iapply (phase_full _ _); iexact HT

/-- Everything arrived, the sends can be awaited. -/
theorem to_G : iprop(R m K c (upto 15) ∗ (bigSep Finset.univ fun r : Fin 15 => cred (tallyAt (sndCell c r) () Nb)) ∗ bigSep Finset.univ fun r : Fin 15 => atPos ER (sndCell c r) 0 ∅ 0)
    ⊢ iprop(G m K c (upto 0) ∗ bigSep Finset.univ fun r : Fin 15 => iprop(semVal (rcvCell c r) 0 ∗ oPts c (bwd c r) (outAt m c))) := by
  rw [show upto 0 = ∅ by decide, show upto 15 = Finset.univ by decide]
  unfold R G
  iintro ⟨⟨#HK, #Hlev, Ho, HW⟩, HR⟩
  isplitl [Ho HR]
  · isplitr; · iexact HK
    isplitr; · iexact Hlev
    isplitl [Ho]; · iexact Ho
    iapply (phase_zero _ _)
    have hj : iprop((bigSep Finset.univ fun r : Fin 15 => (cred (tallyAt (sndCell c r) () Nb) : sProp 𝕄)) ∗ bigSep Finset.univ fun r : Fin 15 => atPos ER (sndCell c r) 0 ∅ 0)
        ⊢ bigSep Finset.univ fun r : Fin 15 => (iprop(cred (tallyAt (sndCell c r) () Nb) ∗ atPos ER (sndCell c r) 0 ∅ 0) : sProp 𝕄) :=
      Entails.of_eq (BI.bigSep_sep Finset.univ _ _).symm
    iapply hj; iexact HR
  iapply (phase_full _ _); iexact HW

/-- One device's whole program. -/
theorem body_spec {Q : PUnit → sProp 𝕄} :
    iprop(records m K ∗ Pre m K c) ⊢ iprop((Post m c -∗ Q ⟨⟩) -∗ wp frame (wpE (defs₀ (F := F)) 𝒱₀ (c : Thread nD τ) none) Set.univ
      (cc0_body (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
        (xM : Memref sig .tc .vmem S64x1024 .f32) (Memref.isWhole_whole _) (wM : Memref sig .tc .vmem S1024x1024 .f32) (Memref.isWhole_whole _) (yM : Memref sig .tc .vmem S16x64x64 .bf16) (Memref.isWhole_whole _)
        cc0_scratch3 cc0_scratch4 cc0_scratch5 cc0_scratch6) Q) := by
  rw [cc0_body_eq_skeleton]; unfold cc0_body_skel Pre
  simp only [wp_bind]
  iintro ⟨#HK, H, #Hlev, HC, HY, HN, HR, HS⟩ Hk
  ihave HY := (phase_zero _ (fun j => yPts c j (ybAt m c))) $$ HY
  ihave HY := (Entails.of_eq (show Ys m c ∅ = Ys m c (slabUpto 0) from congrArg (Ys m c) (by decide))) $$ [HY]
  · unfold Ys; iexact HY
  iapply (part1_spec m K c) $$ [H]; · iexact H
  iintro %v ⟨%hv, H⟩
  subst hv
  dsimp only
  iapply (part2_spec m K c _) $$ [H]; · iexact H
  iintro %_ H
  iapply (part3_spec m K c _ _) $$ [H]; · iexact H
  iintro %_ H
  iapply (part4_spec m K c _ _) $$ [H HC]
  · isplitl [H]; · iexact H
    isplitr; · iexact Hlev
    iexact HC
  iintro %v ⟨%hv, -, Ho, HC⟩
  subst hv
  dsimp only
  iapply (part5_spec m c) $$ [HY]; · iexact HY
  iintro %v ⟨%hv, HY⟩
  obtain ⟨v119, v149⟩ := v
  obtain ⟨h119, h149⟩ := hv
  dsimp only at h119 h149
  subst h119
  dsimp only
  iapply (part6_spec m c v149 h149) $$ [HY]; · iexact HY
  iintro %v ⟨%hv, HY⟩
  subst hv
  iapply (part7_spec m K c _) $$ [HY Ho HN]
  · isplitl [HY]; · iexact HY
    isplitr; · iexact HK
    isplitr; · iexact Hlev
    isplitl [Ho]; · iexact Ho
    iexact HN
  iintro %v ⟨H, HN⟩
  obtain ⟨v207, c1⟩ := v
  dsimp only
  iapply (part8_spec m K c _ _ _) $$ [H]; · iexact H
  iintro %v H
  obtain ⟨v239, c0⟩ := v
  dsimp only
  iapply (part9_spec m K c _ _ _) $$ [H]; · iexact H
  iintro %_ H
  iapply (part10_spec m K c _) $$ [H]; · iexact H
  iintro %_ H
  iapply (part11_spec m K c _) $$ [H]; · iexact H
  iintro %_ H
  iapply (part12_spec m K c _) $$ [H]; · iexact H
  iintro %_ H
  iapply (part13_spec m K c _) $$ [H]; · iexact H
  iintro %_ H
  iapply (part14_spec m K c _) $$ [H]; · iexact H
  iintro %_ H
  ihave H := (to_R m K c) $$ [H HR]
  · isplitl [H]; · iexact H
    iexact HR
  icases H with ⟨H, HW, HT⟩
  iapply (part15_spec m K c _) $$ [H]; · iexact H
  iintro %_ H
  iapply (part16_spec m K c _ _) $$ [H]; · iexact H
  iintro %_ H
  iapply (part17_spec m K c _) $$ [H]; · iexact H
  iintro %_ H
  iapply (part18_spec m K c _ _) $$ [H]; · iexact H
  iintro %_ H
  iapply (part19_spec m K c _) $$ [H]; · iexact H
  iintro %_ H
  iapply (part20_spec m K c _ _) $$ [H]; · iexact H
  iintro %_ H
  ihave H := (to_G m K c) $$ [H HT HS]
  · isplitl [H]; · iexact H
    isplitl [HT]; · iexact HT
    iexact HS
  icases H with ⟨H, HR⟩
  iapply (part21_spec m K c) $$ [H]; · iexact H
  iintro %_ H
  iapply (part22_spec m K c) $$ [H]; · iexact H
  iintro %_ H
  iapply (part23_spec m K c) $$ [H]; · iexact H
  iintro %_ H
  rw [Prog.pure_eq_ret, wp_ret]; imodintro
  iapply Hk
  rw [show upto 15 = Finset.univ by decide]
  unfold Post G
  icases H with ⟨-, -, Ho, HG⟩
  isplitl [Ho]; · iexact Ho
  isplitl [HC]; · iexact HC
  isplitl [HN]; · iexact HN
  isplitl [HW]; · iexact HW
  isplitl [HR]; · iexact HR
  iapply (phase_full _ _); iexact HG

end Whole

end Cert.RingProof
-- ==== Proof.Point.lean ====
/-
The pipeline's proof data and its one grid point: what a device holds before and after the kernel's body, put together
from and taken apart into the pieces the body's rules speak of.
-/
module

public import proofs.«01_k».proof.Proof.Whole

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## What a device holds before the point and after it -/

/-- What stays with a device of the protocol's resources: its positions in its own cells, and the tokens of the duties it pays. -/
def linear (c : Dev nD) : sProp 𝕄 :=
  iprop((bigSep Finset.univ fun k : CI => atPos ER (kcell (c, k)) 0 ∅ 0)
    ∗ (bigSep Finset.univ fun r : Fin 15 => dutyTok ER (rdyCell (fwd c r) r) 0 ())
    ∗ (bigSep Finset.univ fun r : Fin 15 => dutyTok ER (sndCell c r) 0 ())
    ∗ (bigSep Finset.univ fun r : Fin 15 => dutyTok ER (rcvCell (fwd c r) r) 0 ())
    ∗ dutyTok ER (barCell c) 0 () ∗ dutyTok ER (cpxCell c) 0 () ∗ dutyTok ER (cpwCell c) 0 ())
/-- The credit it is launched with: one unit of its barrier, of every ready cell, one block on every receive cell. -/
def credits (c : Dev nD) : sProp 𝕄 :=
  iprop(cred (tallyAt (barCell c) () 1) ∗ (bigSep Finset.univ fun r : Fin 15 => cred (tallyAt (rdyCell c r) () 1))
    ∗ bigSep Finset.univ fun r : Fin 15 => cred (tallyAt (rcvCell c r) () Nb))
/-- What a device's body starts from, but for its scratch and staging buffers. -/
def start (c : Dev nD) : sProp 𝕄 :=
  iprop((∃ K, records m K ∗ linear c) ∗ credits c ∗ levAts L lv ∗ xaPts m c ∗ waPts m c)

/-- The scratch buffers at some contents. -/
def scr (c : Dev nD) : sProp 𝕄 :=
  iprop((∃ f, xPts (F := F) c f) ∗ (∃ f, wPts (F := F) c f) ∗ ∃ f : Buf (Elt F) ((c : Thread nD τ).loc cc0_scratch2), ((c : Thread nD τ).loc cc0_scratch2) ↦{fullShare} f)
/-- All cells of a device at zero. -/
def zeros (c : Dev nD) : sProp 𝕄 := bigSep Finset.univ fun k : CI => semVal (kcell (c, k)) 0

def Φ₀ (c : Dev nD) : sProp 𝕄 := iprop(start m c ∗ scr (F := F) c)
def Φ₁ (c : Dev nD) : sProp 𝕄 := iprop(zeros (F := F) c ∗ scr (F := F) c ∗ xaPts m c ∗ waPts m c)

/-- The pipeline's proof data: the output's array at its entry contents, its staging buffer left at `outAt`. -/
def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A whole buffer held at contents is its points-to at them. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## Families over the cells and over the offsets -/

/-- A family over a device's cells, by kind. -/
theorem by_kind (Φ : CI → sProp 𝕄) : bigSep Finset.univ Φ
    = iprop((bigSep Finset.univ fun r : Fin 15 => Φ (iRdy r)) ∗ (bigSep Finset.univ fun r : Fin 15 => Φ (iSnd r))
        ∗ (bigSep Finset.univ fun r : Fin 15 => Φ (iRcv r)) ∗ Φ iBar ∗ Φ iCpx ∗ Φ iCpw) := by
  rw [BI.bigSep_univ_sum, BI.bigSep_univ_sum, BI.bigSep_univ_sum,
    bigSep_univ_eq_bigSepL [(0 : Fin 3), 1, 2] (by decide) (by decide) (fun k : Fin 3 => Φ (.inr (.inr (.inr k))))]
  rfl
/-- A family over the offsets, counted from the other end. -/
theorem by_rev (Φ : Fin 15 → sProp 𝕄) : (bigSep Finset.univ fun r : Fin 15 => Φ r.rev) = bigSep Finset.univ Φ :=
  (BI.bigSep_univ_equiv Fin.revPerm Φ).symm
/-- Two families are one of pairs. -/
theorem pair_up {I : Type} [Fintype I] (Φ Ψ : I → sProp 𝕄) : iprop(bigSep Finset.univ Φ ∗ bigSep Finset.univ Ψ) ⊢ bigSep Finset.univ fun i => iprop(Φ i ∗ Ψ i) :=
  Entails.of_eq (BI.bigSep_sep Finset.univ Φ Ψ).symm
/-- And back. -/
theorem unpair {I : Type} [Fintype I] (Φ Ψ : I → sProp 𝕄) : (bigSep Finset.univ fun i => iprop(Φ i ∗ Ψ i)) ⊢ iprop(bigSep Finset.univ Φ ∗ bigSep Finset.univ Ψ) :=
  Entails.of_eq (BI.bigSep_sep Finset.univ Φ Ψ)

/-- The slab buffer by slabs; the output by row blocks: a device's own, and the others' by offset. -/
theorem y_split (c : Dev nD) (f : Buf (Elt F) ((c : Thread nD τ).loc cc0_scratch2)) :
    (((c : Thread nD τ).loc cc0_scratch2) ↦{fullShare} f : sProp 𝕄) = bigSep Finset.univ fun j => yPts c j f := by
  unfold yPts
  exact Ring.pointsTo_blocks (ℓ := (c : Thread nD τ).loc cc0_scratch2) ySet ySet_disj ySet_cover (q := fullShare) f
/-- The output: the device's own row block, and the others' by offset. -/
theorem o_split (c : Dev nD) (f : Buf (Elt F) ((c : Thread nD τ).loc cc0_stg0_0)) :
    (((c : Thread nD τ).loc cc0_stg0_0) ↦{fullShare} f : sProp 𝕄) = iprop(oPts c c f ∗ bigSep Finset.univ fun r => oPts c (fwd c r) f) := by
  rw [← split_others c (fun j => oPts c j f)]
  unfold oPts
  exact Ring.pointsTo_blocks (ℓ := (c : Thread nD τ).loc cc0_stg0_0) oSet oSet_disj oSet_cover (q := fullShare) f
/-- The offsets forward and backward reach the same devices. -/
theorem o_back (c : Dev nD) (f : Buf (Elt F) ((c : Thread nD τ).loc cc0_stg0_0)) :
    (bigSep Finset.univ fun r : Fin 15 => (oPts c (bwd c r) f : sProp 𝕄)) = bigSep Finset.univ fun r => oPts c (fwd c r) f := by
  rw [← by_rev (fun r => (oPts c (bwd c r) f : sProp 𝕄))]
  exact BI.bigSep_congr fun r _ => by rw [bwd_rev]

/-! ## Into the body and out of it -/

section Point
variable (K : Dev nD × CI → ℕ) (c : Dev nD)

/-- Each slab of a buffer at one content is at some content; -/
theorem some_y (f : Buf (Elt F) ((c : Thread nD τ).loc cc0_scratch2)) :
    (bigSep Finset.univ fun j => yPts c j f) ⊢ bigSep Finset.univ fun j : Dev nD => (iprop(∃ f, yPts (F := F) c j f) : sProp 𝕄) :=
  BI.bigSep_mono fun j _ => show yPts c j f ⊢ iprop(∃ f, yPts c j f) from by iintro H; iexists f; iexact H
/-- each row block likewise. -/
theorem some_o (f : Buf (Elt F) ((c : Thread nD τ).loc cc0_stg0_0)) :
    (bigSep Finset.univ fun r : Fin 15 => oPts c (fwd c r) f) ⊢ bigSep Finset.univ fun r : Fin 15 => (iprop(∃ f, oPts (F := F) c (fwd c r) f) : sProp 𝕄) :=
  BI.bigSep_mono fun r _ => show oPts c (fwd c r) f ⊢ iprop(∃ f, oPts c (fwd c r) f) from by iintro H; iexists f; iexact H

/-- Into the body. -/
theorem enter (W : Waits sig Unit) (f : Buf (Elt F) ((c : Thread nD τ).loc cc0_stg0_0)) :
    iprop(records m K ∗ linear c ∗ credits c ∗ levAts L lv ∗ xaPts m c ∗ waPts m c ∗ scr (F := F) c ∗ owes (c : Thread nD τ) (O₀ c) W
      ∗ (((c : Thread nD τ).loc cc0_stg0_0) ↦{fullShare} f)) ⊢ iprop(records m K ∗ Pre m K c) := by
  unfold linear credits scr Pre S0 C0 N0
  rw [by_kind, o_split]
  iintro ⟨#HK, ⟨⟨HaR, HaS, HaV, HaB, HaX, HaW⟩, HtR, HtS, HtV, HtB, HtX, HtW⟩, ⟨HcB, HcR, HcV⟩, #Hlev, Hxa, Hwa, ⟨Hx, Hw, ⟨%g, Hy⟩⟩, Ho, Hoc, Hof⟩
  isplitr; · iexact HK
  isplitl [HtR Hof Ho HtB]
  · isplitr; · iexact HK
    isplitl [Ho]; · unfold Ow; iexists W; iexact Ho
    isplitl [HtB]; · iexact HtB
    iapply (phase_zero _ _)
    iapply (pair_up (fun r : Fin 15 => dutyTok ER (rdyCell (fwd c r) r) 0 ()) (fun r => iprop(∃ f, oPts (F := F) c (fwd c r) f)))
    isplitl [HtR]; · iexact HtR
    iapply (some_o c f); iexact Hof
  isplitr; · iexact Hlev
  isplitl [HtX HaX Hxa Hx HtW HaW Hwa Hw]
  · isplitl [HtX HaX Hxa Hx]
    · isplitl [HtX]; · iexact HtX
      isplitl [HaX]; · iexact HaX
      isplitl [Hxa]; · iexact Hxa
      iexact Hx
    isplitl [HtW]; · iexact HtW
    isplitl [HaW]; · iexact HaW
    isplitl [Hwa]; · iexact Hwa
    iexact Hw
  isplitl [Hy]
  · iapply (some_y c g)
    ihave Hy := (Entails.of_eq (y_split c g)) $$ Hy
    iexact Hy
  isplitl [Hoc HcB HaB HcR HaR HtS HtV]
  · isplitl [Hoc]; · iexists f; iexact Hoc
    isplitl [HcB HaB]
    · isplitl [HcB]; · iexact HcB
      iexact HaB
    isplitl [HcR HaR]
    · iapply (pair_up (fun r : Fin 15 => cred (tallyAt (rdyCell c r.rev) () 1)) (fun r => atPos ER (rdyCell c r.rev) 0 ∅ 0))
      isplitl [HcR]
      · ihave H := (Entails.of_eq (by_rev (fun r : Fin 15 => (cred (tallyAt (rdyCell c r) () 1) : sProp 𝕄))).symm) $$ HcR; iexact H
      ihave H := (Entails.of_eq (show (bigSep Finset.univ fun r : Fin 15 => (atPos ER (kcell (c, iRdy r)) 0 ∅ 0 : sProp 𝕄)) = bigSep Finset.univ fun r : Fin 15 => atPos ER (rdyCell c r.rev) 0 ∅ 0 from
        (by_rev (fun r : Fin 15 => (atPos ER (rdyCell c r) 0 ∅ 0 : sProp 𝕄))).symm)) $$ HaR; iexact H
    iapply (pair_up (fun r : Fin 15 => dutyTok ER (sndCell c r) 0 ()) (fun r => dutyTok ER (rcvCell (fwd c r) r) 0 ()))
    isplitl [HtS]; · iexact HtS
    iexact HtV
  isplitl [HcV HaV]
  · iapply (pair_up (fun r : Fin 15 => cred (tallyAt (rcvCell c r) () Nb)) (fun r => atPos ER (rcvCell c r) 0 ∅ 0))
    isplitl [HcV]; · iexact HcV
    iexact HaV
  iexact HaS

/-- Out of the body. -/
theorem leave : Post m c ⊢ iprop(Φ₁ m c ∗ Ow c 0 ∗ (((c : Thread nD τ).loc cc0_stg0_0) ↦{fullShare} outAt m c)) := by
  unfold Post Φ₁ zeros C1 N1 scr
  rw [by_kind, o_split]
  iintro ⟨Ho, ⟨⟨HzX, Hxa, Hx⟩, HzW, Hwa, Hw⟩, ⟨Hyc, Hoc, HzB⟩, HzR, HV, HS⟩
  ihave HV := (unpair (fun r : Fin 15 => semVal (rcvCell c r) 0) (fun r => oPts c (bwd c r) (outAt m c))) $$ HV
  icases HV with ⟨HzV, Hob⟩
  ihave HS := (unpair (fun r : Fin 15 => semVal (sndCell c r) 0) (fun r => yPts c (fwd c r) (ybAt m c))) $$ HS
  icases HS with ⟨HzS, Hyf⟩
  isplitr [Ho Hoc Hob]
  · isplitl [HzX HzW HzB HzR HzV HzS]
    · isplitl [HzR]
      · ihave H := (Entails.of_eq (by_rev (fun r : Fin 15 => (semVal (rdyCell c r) 0 : sProp 𝕄)))) $$ HzR; iexact H
      isplitl [HzS]; · iexact HzS
      isplitl [HzV]; · iexact HzV
      isplitl [HzB]; · iexact HzB
      isplitl [HzX]; · iexact HzX
      iexact HzW
    isplitl [Hx Hw Hyc Hyf]
    · isplitl [Hx]; · iexists _; iexact Hx
      isplitl [Hw]; · iexists _; iexact Hw
      iexists (ybAt m c)
      rw [y_split, split_others c]
      isplitl [Hyc]; · iexact Hyc
      iexact Hyf
    isplitl [Hxa]; · iexact Hxa
    iexact Hwa
  isplitl [Ho]; · iexact Ho
  isplitl [Hoc]; · iexact Hoc
  ihave H := (Entails.of_eq (o_back c (outAt m c))) $$ Hob; iexact H

end Point

/-- The output's staging buffer at contents. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

set_option maxRecDepth 8000 in
/-- The library's obligation for the body on device `c`. -/
theorem body_obligation (c : Dev nD) : BodyObligation (dats (F := F) m 0 c) (defs₀ (F := F)) 𝒱₀ () Set.univ := fun t => by
  rw [fin_N0 t]
  rw [bigSep_W0, bigSep_W0]
  simp only [owns_whole]
  show iprop(Φ₀ m c ∗ (dats m 0 c).owesAt () t0_0.castSucc ∗ (∃ d, stg c ((dats m 0 c).before (0 : Fin 1) t0_0 d)))
    ⊢ wp frame (wpE (defs₀ (F := F)) 𝒱₀ (c : Thread nD τ) none) Set.univ
      (cc0_body (F := F) (xArg : Memref sig .tc .hbm S64x1024 .f32) (Memref.isWhole_whole _) (wArg : Memref sig .tc .hbm S1024x1024 .f32) (Memref.isWhole_whole _) (oM : Memref sig .tc .vmem S1024x64 .bf16) (Memref.isWhole_whole _)
        (xM : Memref sig .tc .vmem S64x1024 .f32) (Memref.isWhole_whole _) (wM : Memref sig .tc .vmem S1024x1024 .f32) (Memref.isWhole_whole _) (yM : Memref sig .tc .vmem S16x64x64 .bf16) (Memref.isWhole_whole _)
        cc0_scratch3 cc0_scratch4 cc0_scratch5 cc0_scratch6) (fun _ => iprop(Φ₁ m c ∗ (dats m 0 c).owesAt () t0_0.succ ∗ stg c (outAt m c)))
  unfold Φ₀ start Dat.owesAt Pipeline.owesWithin
  rw [show (dats m 0 c).owed t0_0.castSucc = O₀ c from rfl, show (dats m 0 c).owed t0_0.succ = 0 from rfl]
  iintro ⟨⟨⟨⟨%K, HK, Hlin⟩, Hcr, Hlev, Hxa, Hwa⟩, Hscr⟩, ⟨%W, -, Ho⟩, ⟨%d, %f, -, Hf⟩⟩
  iapply (body_spec m K c) $$ [HK Hlin Hcr Hlev Hxa Hwa Hscr Ho Hf]
  · iapply (enter m K c W f)
    isplitl [HK]; · iexact HK
    isplitl [Hlin]; · iexact Hlin
    isplitl [Hcr]; · iexact Hcr
    isplitl [Hlev]; · iexact Hlev
    isplitl [Hxa]; · iexact Hxa
    isplitl [Hwa]; · iexact Hwa
    isplitl [Hscr]; · iexact Hscr
    isplitl [Ho]; · iexact Ho
    iexact Hf
  iintro H
  ihave H := (leave m c) $$ H
  unfold Ow
  icases H with ⟨H, ⟨%W', Ho⟩, Hf⟩
  isplitl [H]; · iexact H
  isplitl [Ho]
  · iexists W'
    isplitr; · ipureintro; exact fun _ _ => Or.inl trivial
    iexact Ho
  iexists _; isplitr; · (ipureintro; rfl)
  iexact Hf

end Cert.RingProof
-- ==== Proof.Run.lean ====
/-
The launch: the protocol's ghost state made and dealt among the devices, the credit each is launched with, and the run of
the whole program — it terminates, and every final state has the output's array as computed, the arguments unchanged and
every semaphore counter at zero.
-/
module

public import proofs.«01_k».proof.Proof.Point
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)

variable {F : FTy → Type} [FloatOps F]

local notation "𝕄" => MT nD τ sig Unit (Elt F) ℕ UU ℕ

variable (m : (ℓ : Loc nD τ sig) → Buf (Elt F) ℓ)

/-! ## The cells as the launch sees them -/

/-- The kernel's own semaphores: the ready, send and receive semaphores, the operand copies' two. -/
abbrev OI : Type := Fin 15 ⊕ Fin 15 ⊕ Fin 15 ⊕ Fin 2
def osem : OI → SemLoc sig
  | .inl r => .reg (rdyS r)
  | .inr (.inl r) => .dma (sndS r)
  | .inr (.inr (.inl r)) => .dma (rcvS r)
  | .inr (.inr (.inr 0)) => .dma cpxS
  | .inr (.inr (.inr 1)) => .dma cpwS

/-- They are all scoped, distinct, and apart from the pipeline's own. -/
theorem ownSemFacts : Pipeline.OwnSemFacts cfg0.spec osem := by decide

/-- Different cells of a device are of different semaphores, -/
theorem csem_inj : Function.Injective csem := by decide

/-- and different cells of the mesh are different. -/
theorem kcell_inj : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_inj⟩

/-- Every cell's one duty token. -/
abbrev tokOf (ck : Dev nD × CI) : GSem nD τ sig × ℕ × Unit := (kcell ck, 0, ())
/-- Different cells have different tokens. -/
theorem tokOf_inj : Function.Injective tokOf := fun a b h => kcell_inj (congrArg Prod.fst h)
def ringToks : Finset (GSem nD τ sig × ℕ × Unit) := Finset.univ.map ⟨tokOf, tokOf_inj⟩

def u₀ : UU :=
  (initOf (Pipeline.cells cfgs cellOf_inj) (Pipeline.launchToks cfgs cellOf_inj), initOf ringCells ringToks)

/-- The window's array is held whole. -/
theorem share_eq (c : Dev nD) (w : Fin cfg0.W) : (dats m 0 c).share w = fullShare := by unfold Dat.share; split <;> rfl

/-! ## The ghost state -/

/-- The tokens of a device's own cells. -/
def toks (c : Dev nD) : sProp 𝕄 := bigSep Finset.univ fun k : CI => dutyTok ER (kcell (c, k)) 0 ()
/-- Its positions in them. -/
def posns (c : Dev nD) : sProp 𝕄 := bigSep Finset.univ fun k : CI => atPos ER (kcell (c, k)) 0 ∅ 0

/-- What the launch element deals device `c`; -/
def Gd (c : Dev nD) : sProp 𝕄 :=
  iprop((bigSep Finset.univ fun k : CI => roundState ER (ringRd m) (kcell (c, k)) 0)
    ∗ (posns c ∗ bigSep Finset.univ fun k : CI => reached ER (kcell (c, k)) 0) ∗ toks c)
/-- what the invariants' allocation makes of it; -/
def Gi (c : Dev nD) : sProp 𝕄 :=
  iprop((bigSep Finset.univ fun k : CI => iprop(∃ κ : ℕ, cellInv ER (ringRd m) κ (kcell (c, k))))
    ∗ (posns c ∗ bigSep Finset.univ fun k : CI => reached ER (kcell (c, k)) 0) ∗ toks c)
/-- and what the exchange of tokens makes of that. -/
def Ge (c : Dev nD) : sProp 𝕄 := iprop(∃ K, records m K ∗ linear c)

/-- A family of pairs is a pair of families. -/
theorem sep_of {I : Type} (S : Finset I) (Φ Ψ : I → sProp 𝕄) : (bigSep S fun i => iprop(Φ i ∗ Ψ i)) = iprop(bigSep S Φ ∗ bigSep S Ψ) := BI.bigSep_sep S Φ Ψ

/-- The ring's part of the launch element is every device's deal. -/
theorem fund_ring : BI.own (ER (initOf ringCells ringToks)) ⊢ (|==> bigSep Finset.univ (Gd m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, BI.bigSep_univ_prod]; rfl
  have hT : bigSep ringToks (fun x => (dutyTok ER x.1 x.2.1 x.2.2 : sProp 𝕄)) = bigSep Finset.univ fun c : Dev nD => toks c := by
    unfold ringToks toks; rw [bigSep_map, BI.bigSep_univ_prod]; rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Gd posns; simp only [sep_of]
  isplitl [Hst]; · iexact Hst
  isplitl [Hat Hr]
  · isplitl [Hat]; · iexact Hat
    iexact Hr
  iexact Htok

/-- The kernel's own semaphores and the barrier's are the cells'. -/
theorem own_eq (c : Dev nD) : (Pipeline.ownSems0 (Ix := Unit) (Name := ℕ) (U := UU) (Lvl := ℕ) (Val := Elt F) (τ := τ) osem c : sProp 𝕄)
    = iprop((bigSep Finset.univ fun r : Fin 15 => semVal (rdyCell c r) 0) ∗ (bigSep Finset.univ fun r : Fin 15 => semVal (sndCell c r) 0)
        ∗ (bigSep Finset.univ fun r : Fin 15 => semVal (rcvCell c r) 0) ∗ semVal (cpxCell c) 0 ∗ semVal (cpwCell c) 0) := by
  unfold Pipeline.ownSems0
  rw [BI.bigSep_univ_sum, BI.bigSep_univ_sum, BI.bigSep_univ_sum,
    bigSep_univ_eq_bigSepL [(0 : Fin 2), 1] (by decide) (by decide) (fun k : Fin 2 => semVal ((c.tc : Thread nD τ), osem (.inr (.inr (.inr k)))) 0)]
  rfl
/-- The one semaphore that outlives the kernel is the barrier's. -/
theorem unscoped_eq (c : Dev nD) : (unscopedSems0 c : sProp 𝕄) = semVal (barCell c) 0 := by
  unfold unscopedSems0; rw [bigSep_eq_bigSepL_of_eq [SemLoc.reg barS] (by decide) (by decide)]; rfl
/-- A device's counters at zero are those of the kernel's own semaphores and of the barrier's. -/
theorem zeros_eq (c : Dev nD) :
    zeros (F := F) c ⊣⊢ iprop(Pipeline.ownSems0 (Ix := Unit) (Name := ℕ) (U := UU) (Lvl := ℕ) (Val := Elt F) (τ := τ) osem c ∗ unscopedSems0 c) := by
  rw [own_eq, unscoped_eq]
  unfold zeros
  rw [by_kind]
  constructor
  · iintro ⟨HR, HS, HV, HB, HX, HW⟩
    isplitr [HB]
    · isplitl [HR]; · iexact HR
      isplitl [HS]; · iexact HS
      isplitl [HV]; · iexact HV
      isplitl [HX]; · iexact HX
      iexact HW
    iexact HB
  · iintro ⟨⟨HR, HS, HV, HX, HW⟩, HB⟩
    isplitl [HR]; · iexact HR
    isplitl [HS]; · iexact HS
    isplitl [HV]; · iexact HV
    isplitl [HB]; · iexact HB
    isplitl [HX]; · iexact HX
    iexact HW

/-- Each device's cells get their invariants. -/
theorem core_alloc (c : Dev nD) :
    iprop(Pipeline.ownSems0 (Ix := Unit) (Name := ℕ) (U := UU) (Lvl := ℕ) (Val := Elt F) (τ := τ) osem c ∗ unscopedSems0 c ∗ Gd m c) ⊢ |={Set.univ}=> Gi m c := by
  unfold Gd Gi
  iintro ⟨Hos, Hus, Hst, Hat, Htok⟩
  ihave Hv := (zeros_eq (F := F) c).2 $$ [Hos Hus]
  · isplitl [Hos]; · iexact Hos
    iexact Hus
  imod (show iprop(zeros (F := F) c ∗ bigSep Finset.univ fun k : CI => roundState ER (ringRd m) (kcell (c, k)) 0)
      ⊢ (|={Set.univ}=> bigSep Finset.univ fun k : CI => iprop(∃ κ : ℕ, cellInv ER (ringRd m) κ (kcell (c, k))) : sProp 𝕄) from by
        unfold zeros
        rw [← sep_of]
        exact (BI.bigSep_mono fun k _ => (Rounds.body_intro ER (ringRd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- A family over devices and offsets, at the device each offset reaches. -/
theorem around (Φ : Dev nD → Fin 15 → sProp 𝕄) :
    (bigSep Finset.univ fun c : Dev nD => bigSep Finset.univ fun r : Fin 15 => Φ c r)
      = bigSep Finset.univ fun c : Dev nD => bigSep Finset.univ fun r : Fin 15 => Φ (fwd c r) r := by
  rw [BI.bigSep_univ_comm, BI.bigSep_univ_comm (fun (c : Dev nD) (r : Fin 15) => Φ (fwd c r) r)]
  exact BI.bigSep_congr fun r _ => BI.bigSep_univ_equiv (turn r) (fun c => Φ c r)

/-- The tokens dealt around the ring: a device pays the ready and receive cells of the others. -/
theorem deal : iprop((bigSep Finset.univ fun c : Dev nD => posns c) ∗ bigSep Finset.univ fun c : Dev nD => (toks c : sProp 𝕄)) ⊢ bigSep Finset.univ fun c : Dev nD => linear c := by
  unfold toks linear posns
  simp only [by_kind (fun k => dutyTok ER (kcell (_, k)) 0 ())]
  simp only [sep_of]
  rw [← around (fun c r => (dutyTok ER (rdyCell c r) 0 () : sProp 𝕄)), ← around (fun c r => (dutyTok ER (rcvCell c r) 0 () : sProp 𝕄))]
  exact .rfl

/-- What follows member by member from a fact that may be used again and again follows for the whole family. -/
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← sep_of]; exact BI.bigSep_mono h)

/-- All devices' shares together, with the invariants' names chosen once for all. -/
theorem regroup : (bigSep Finset.univ fun c : Dev nD => Gi m c) ⊢ bigSep Finset.univ (Ge m) := by
  unfold Gi
  rw [sep_of, sep_of, sep_of, ← BI.bigSep_univ_prod (fun ck : Dev nD × CI => (iprop(∃ κ : ℕ, cellInv ER (ringRd m) κ (kcell ck)) : sProp 𝕄)),
    ← BI.bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd m) κ (kcell ck) : sProp 𝕄))) $$ HI
  icases HK with ⟨%K, #HI⟩
  ihave Hl := (deal (F := F)) $$ [Hat Htok]
  · isplitl [Hat]; · iexact Hat
    iexact Htok
  iapply (with_records (R := records m K) (Φ := fun c => linear c) fun c _ => show _ ⊢ Ge m c from by
    unfold Ge
    iintro ⟨H₁, H₂⟩
    iexists K
    isplitl [H₁]; · iexact H₁
    iexact H₂)
  isplitr
  · unfold records; isplitl; · iexact HI
    iexact HR
  · iexact Hl

/-- The global step: every device's semaphores and deal at once. -/
theorem glob : (bigSep Finset.univ fun c => iprop(Pipeline.ownSems0 (Ix := Unit) (Name := ℕ) (U := UU) (Lvl := ℕ) (Val := Elt F) (τ := τ) osem c ∗ unscopedSems0 c ∗ Gd m c) : sProp 𝕄)
    ⊢ |={Set.univ}=> bigSep Finset.univ (Ge m) :=
  ((BI.bigSep_mono fun c _ => core_alloc m c).trans (bigSep_fupd _ _)).trans (BI.fupd_mono (regroup m))

/-! ## The launch credit -/

/-- A sum of tallies at a cell only one of them is of. -/
theorem sum_tally_at (cell : Fin 15 → GSem nD τ sig) (k : ℕ) (g : GSem nD τ sig) (r : Fin 15) (h : ∀ r', g = cell r' → r' = r) :
    (∑ r' : Fin 15, tallyAt (cell r') () k : CellTallies nD τ sig Unit) g () = if g = cell r then k else 0 := by
  rw [Finset.sum_apply, Finsupp.finset_sum_apply, Finset.sum_eq_single r]
  · rw [tallyAt_apply]
    by_cases hg : g = cell r
    · rw [if_pos ⟨hg, rfl⟩, if_pos hg]
    · rw [if_neg (fun h' => hg h'.1), if_neg hg]
  · intro r' _ hr'
    rw [tallyAt_apply]
    exact if_neg fun h' => hr' (h r' h'.1)
  · intro h'; exact absurd (Finset.mem_univ r) h'

/-- A sum of tallies at a cell none of them is of. -/
theorem sum_tally_zero (cell : Fin 15 → GSem nD τ sig) (k : ℕ) (g : GSem nD τ sig) (h : ∀ r', g ≠ cell r') :
    (∑ r' : Fin 15, tallyAt (cell r') () k : CellTallies nD τ sig Unit) g () = 0 := by
  rw [sum_tally_at cell k g 0 fun r' e => absurd e (h r')]
  exact if_neg (h 0)

/-- Cells of the same device are of the same semaphore only if they are the same. -/
theorem cell_eq {c c' : Dev nD} {k k' : CI} (h : kcell (c, k) = kcell (c', k')) : c = c' ∧ k = k' := by
  have := kcell_inj h
  exact ⟨congrArg Prod.fst this, congrArg Prod.snd this⟩

/-- `c` is the device `d` reaches at an offset exactly when `d` is the one that offset before `c`. -/
theorem at_fwd (d c : Dev nD) (r : Fin 15) : (if c = fwd d r then (1 : ℕ) else 0) = if d = bwd c r then 1 else 0 := by
  by_cases h : d = bwd c r
  · subst h; rw [fwd_bwd, if_pos rfl, if_pos rfl]
  · rw [if_neg h, if_neg fun e => h (by rw [e, bwd_fwd])]

/-- What device `d` owes the ready cell `r` of device `c`; -/
theorem owed_rdy (d c : Dev nD) (r : Fin 15) : O₀ d (rdyCell c r) () = if d = bwd c r then 1 else 0 := by
  unfold O₀ owedRcv owedRdy
  rw [Pi.add_apply, Finsupp.add_apply, Pi.add_apply, Finsupp.add_apply,
    sum_tally_zero (fun r' => rcvCell (fwd d r') r') Nb (rdyCell c r) (fun r' e => absurd (cell_eq (c := c) (k := iRdy r) (k' := iRcv r') e).2 (by simp)),
    sum_tally_at (fun r' => rdyCell (fwd d r') r') 1 (rdyCell c r) r (fun r' e => (Sum.inl.inj (cell_eq (c := c) (k := iRdy r) (k' := iRdy r') e).2).symm),
    tallyAt_ne_cell (show rdyCell c r ≠ barCell d from fun e => absurd (cell_eq (c := c) (k := iRdy r) (k' := iBar) e).2 (by simp)), Finsupp.zero_apply, Nat.add_zero, Nat.zero_add]
  rw [← at_fwd]
  by_cases h : c = fwd d r
  · rw [if_pos h, if_pos (by rw [← h])]
  · rw [if_neg h, if_neg fun e : rdyCell c r = rdyCell (fwd d r) r => h (cell_eq (k := iRdy r) (k' := iRdy r) e).1]
/-- its receive cell `r`; -/
theorem owed_rcv (d c : Dev nD) (r : Fin 15) : O₀ d (rcvCell c r) () = if d = bwd c r then Nb else 0 := by
  unfold O₀ owedRcv owedRdy
  rw [Pi.add_apply, Finsupp.add_apply, Pi.add_apply, Finsupp.add_apply,
    sum_tally_zero (fun r' => rdyCell (fwd d r') r') 1 (rcvCell c r) (fun r' e => absurd (cell_eq (c := c) (k := iRcv r) (k' := iRdy r') e).2 (by simp)),
    sum_tally_at (fun r' => rcvCell (fwd d r') r') Nb (rcvCell c r) r
      (fun r' e => (Sum.inl.inj (Sum.inr.inj (Sum.inr.inj (cell_eq (c := c) (k := iRcv r) (k' := iRcv r') e).2))).symm),
    tallyAt_ne_cell (show rcvCell c r ≠ barCell d from fun e => absurd (cell_eq (c := c) (k := iRcv r) (k' := iBar) e).2 (by simp)), Finsupp.zero_apply, Nat.add_zero, Nat.add_zero]
  by_cases h : d = bwd c r
  · rw [if_pos h, if_pos (by rw [h, fwd_bwd])]
  · rw [if_neg h, if_neg fun e : rcvCell c r = rcvCell (fwd d r) r =>
      h (by rw [show c = fwd d r from (cell_eq (k := iRcv r) (k' := iRcv r) e).1, bwd_fwd])]
/-- and its barrier cell. -/
theorem owed_bar (d c : Dev nD) : O₀ d (barCell c) () = if d = c then 1 else 0 := by
  unfold O₀ owedRcv owedRdy
  rw [Pi.add_apply, Finsupp.add_apply, Pi.add_apply, Finsupp.add_apply,
    sum_tally_zero (fun r' => rdyCell (fwd d r') r') 1 (barCell c) (fun r' e => absurd (cell_eq (c := c) (k := iBar) (k' := iRdy r') e).2 (by simp)),
    sum_tally_zero (fun r' => rcvCell (fwd d r') r') Nb (barCell c) (fun r' e => absurd (cell_eq (c := c) (k := iBar) (k' := iRcv r') e).2 (by simp)),
    tallyAt_apply, Nat.add_zero, Nat.zero_add]
  by_cases h : d = c
  · rw [if_pos h, if_pos ⟨by rw [h], rfl⟩]
  · rw [if_neg h, if_neg fun e => h (cell_eq (k := iBar) (k' := iBar) e.1).1.symm]

/-- What is owed a cell by one device only is the credit it is launched with. -/
theorem launch_at (g : GSem nD τ sig) (k : ℕ) (d₀ : Dev nD) (h : ∀ d, O₀ d g () = if d = d₀ then k else 0) :
    tallyOn g (launchCredit (Pipeline.owing O₀) 0 g) = (tallyAt g () k : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ d₀ fun _ => k,
    if_pos (Finset.mem_univ _)]

/-- The credit a device is launched with: its barrier unit, its ready units, its arrivals. -/
theorem creds (c : Dev nD) : (Pipeline.launchCred O₀ c : sProp 𝕄) ⊢ credits c := by
  unfold Pipeline.launchCred
  refine (BI.bigSep_subset (t := Finset.univ.map ⟨csem, csem_inj⟩) (Finset.subset_univ _)).trans ?_
  rw [bigSep_map, by_kind]
  unfold credits
  show iprop((bigSep Finset.univ fun r : Fin 15 => cred (tallyOn (rdyCell c r) (launchCredit (Pipeline.owing O₀) 0 (rdyCell c r))))
    ∗ (bigSep Finset.univ fun r : Fin 15 => cred (tallyOn (sndCell c r) (launchCredit (Pipeline.owing O₀) 0 (sndCell c r))))
    ∗ (bigSep Finset.univ fun r : Fin 15 => cred (tallyOn (rcvCell c r) (launchCredit (Pipeline.owing O₀) 0 (rcvCell c r))))
    ∗ cred (tallyOn (barCell c) (launchCredit (Pipeline.owing O₀) 0 (barCell c)))
    ∗ cred (tallyOn (cpxCell c) (launchCredit (Pipeline.owing O₀) 0 (cpxCell c)))
    ∗ cred (tallyOn (cpwCell c) (launchCredit (Pipeline.owing O₀) 0 (cpwCell c)))) ⊢ _
  iintro ⟨HR, -, HV, HB, -, -⟩
  isplitl [HB]
  · ihave H := (Entails.of_eq (congrArg (fun t => (cred t : sProp 𝕄)) (launch_at (barCell c) 1 c fun d => owed_bar d c))) $$ HB; iexact H
  isplitl [HR]
  · iapply (Entails.of_eq (BI.bigSep_congr (s := Finset.univ) fun (r : Fin 15) _ => congrArg (fun t => (cred t : sProp 𝕄)) (launch_at (rdyCell c r) 1 (bwd c r) fun d => owed_rdy d c r)))
    iexact HR
  · iapply (Entails.of_eq (BI.bigSep_congr (s := Finset.univ) fun (r : Fin 15) _ => congrArg (fun t => (cred t : sProp 𝕄)) (launch_at (rcvCell c r) Nb (bwd c r) fun d => owed_rcv d c r)))
    iexact HV

/-! ## The side conditions of the launch -/

variable (ρ : Dev nD → PrngReg)

/-- What a device starts from, out of what the launch gives it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Ge m c)
      ⊢ |={Set.univ}=> iprop(start m c ∗ emp) := by
  rw [Pipeline.unscopedRestP_none, unscopedRest0_eq]
  iintro ⟨⟨Hx, Hw⟩, Hlev, Hcr, -, HG⟩
  ihave Hc := (creds (F := F) c) $$ Hcr
  imodintro
  unfold start Ge xaPts waPts
  isplitl
  · isplitl [HG]; · iexact HG
    isplitl [Hc]; · iexact Hc
    isplitl [Hlev]; · iexact Hlev
    isplitl [Hx]; · iexact Hx
    iexact Hw
  · iempintro

/-- With the scratch buffers, that is the state before the one grid point; -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr xPts wPts
  iintro ⟨Hs, -, Hr⟩
  isplitl [Hs]; · iexact Hs
  iexact Hr

/-- What a device ends with besides its output: the barrier's counter at zero, the arguments as launched. -/
def finish (c : Dev nD) : sProp 𝕄 := iprop(unscopedSems0 c ∗ xaPts m c ∗ waPts m c)

/-- and the state after it gives the end, the semaphores at zero and the scratch buffers back. -/
theorem phi1_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scopedRest0_eq]
  unfold Φ₁ scr xPts wPts finish
  iintro ⟨Hz, Hr, Hx, Hw⟩
  ihave Hz := (zeros_eq (F := F) c).1 $$ Hz
  icases Hz with ⟨Ho, Hu⟩
  isplitl [Hu Hx Hw]
  · isplitl [Hu]; · iexact Hu
    isplitl [Hx]; · iexact Hx
    iexact Hw
  isplitl [Ho]; · iexact Ho
  iexact Hr

/-- The pipeline's own waits are below all that is owed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The final states: on every device the output's array as computed, the arguments as launched; every counter zero. -/
def Final (r : PUnit × MemSt nD τ sig (Elt F)) : Prop :=
  (∀ c : Dev nD, r.2.mem (win0_0.arr.view.loc (c : Thread nD τ)) = (dats m 0 c).arrAt (0 : Fin 1) cfg0.N
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0

/-- What is read of a device's end. -/
def Seen (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

/-- What a device ends with, read off the final memory. -/
theorem read_end (c : Dev nD) (s' : Phys nD τ sig (Elt F)) :
    iprop(finish m c ∗ emp ∗ SI s') ⊢ |={Set.univ}=> iprop(⌜Seen m c s'.mem⌝ ∗ SI s' : sProp 𝕄) := by
  unfold finish xaPts waPts
  iintro ⟨⟨Hu, Hx, Hw⟩, -, HSI⟩
  icombine HSI Hx gives %hx
  icombine HSI Hw gives %hw
  imod (Pipeline.unscopedSems0_read (X := unscopedSems0 c) (c := c) fupd_intro s') $$ [Hu HSI] with ⟨%hz, HSI⟩
  · isplitl [Hu]; · iexact Hu
    iexact HSI
  imodintro
  isplitr; · ipureintro; exact ⟨hz, funext fun i => hx i (Finset.mem_univ i), funext fun i => hw i (Finset.mem_univ i)⟩
  iexact HSI

set_option maxRecDepth 8000 in
/-- On the mesh of sixteen devices, for any float values and from any memory with zero counters, every weakly fair
    execution of the program terminates in a final state as described. -/
theorem run_main : θ_run defs (onTc (τ := τ) (main (F := F))) ⟨m, fun _ => 0, ρ⟩ (Final m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := Gd m) (G' := Ge m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ) (hin := phi0_intro m) (hout := phi1_exit m)
    (QY := Seen m) (hY := read_end m)
    (hQ := fun _ h hs => ⟨fun c => ⟨(h c).1 0, (h c).2.2.2⟩, sem_eq_zero hs fun c => (h c).2.2.1⟩)

/-- The one window is written back once, whole: the output's array ends as the body left the staging buffer. -/
theorem final_out (c : Dev nD) : (dats m 0 c).arrAt (0 : Fin 1) cfg0.N = outAt m c := by
  have hz : (fun a => (win0_0.index t0_0) a * main_v1.ty.shape.size a) = fun _ => 0 := funext fun a => by fin_cases a <;> decide
  have hr := fun f => Memref.read_access_unit_zero (Elt F) main_v1 hz (fun a => by fin_cases a <;> decide) f
  refine (hr _).symm.trans ?_
  rw [show cfg0.N = (t0_0 : Fin cfg0.N).val + 1 from rfl, (dats m 0 c).arrAt_succ 0 t0_0, if_pos (flush0_0 t0_0)]
  exact View.read_write_univ _ _

/-- The same run, the output's array by its contents. -/
theorem run_out : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c).1.trans (final_out m c), (h.1 c).2⟩, h.2⟩) (run_main m ρ)

end Cert.RingProof

end
-- ==== Proof.Value.lean ====
/-
What the kernel computes against what the reference computes, at the exact values: every element of the result is the
same function of the same product of a row of the first operand with a column of the second, and the blocks the devices
end with are the blocks of the reference's result.
-/
module

public import proofs.«01_k».proof.Proof.Run
public import proofs.«01_k».proof.Proof.Gen.ReferenceIdeal.Run
public import proofs.«01_k».proof.Defs
public import Idealize.ShloMosaic.Lib.MatmulPlain
public import Idealize.ShloMosaic.Lib.StackMember
public import Idealize.ShloMosaic.Lib.IdealHost
public import Idealize.ShloMosaic.Lib.Layout

@[expose] public section

noncomputable section

namespace Cert.RingProof

open Idealize.ShloMosaic Idealize.ShloMosaic.TcCoe Idealize.SL.Sem
open Idealize.ShloMosaic.ValueIdx

/-! ## One element -/

/-- The product's element at a row and a column. -/
def prod {M : Nat} (X : (⟨2, ![M, 1024]⟩ : Shape).Idx → EReal) (W : (⟨2, ![1024, 1024]⟩ : Shape).Idx → EReal) (a : Fin M) (b : Fin 1024) : EReal :=
  ∑ k : Fin 1024, X (ix2 a k) * W (ix2 k b)

/-- The gelu, by its tanh form, of one element. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- The kernel multiplies the cube's coefficient in from the left, which is the same number. -/
theorem cube (a y : EReal) : a * y * y * y = a * (y * y * y) := by rw [mul_assoc, mul_assoc, mul_assoc]

/-! ## The kernel's element -/

section

open Cert.KernelIdeal Cert.KernelIdeal.Gen

variable (m : (ℓ : Loc nD τ sig) → Buf (Elt Ideal) ℓ)

/-- The kernel's product, read at an element; -/
theorem product_at (X : Vec Ideal S64x1024 .f32) (W : Vec Ideal S1024x1024 .f32) (p : Fin 64) (q : Fin 1024) :
    k0_pay1 X W (ix2 p q) = prod X W p q := by
  unfold k0_pay1 prod
  refine (Ideal.matmul_plain_apply (M := 64) (K := 1024) (N := 1024) none (truncf .bf16 X bitsLt_bf16_f32) (truncf .bf16 W bitsLt_bf16_f32)
    (constant S64x1024 .f32 0x00000000#32) p q).trans ?_
  show Ideal.ofBits .f32 0x00000000#32 + _ = _
  rw [Ideal.ofBits_zero_f32, zero_add]
  rfl

/-- and what it makes of it. -/
theorem actB_at (c : Dev nD) (p : Fin 64) (q : Fin 1024) : actB m c (ix2 p q) = gelu (prod (xAt m c) (wAt m c) p q) := by
  unfold gelu
  rw [← product_at, ← cube]
  rfl

end

/-! ## The reference's element -/

section

open Cert.ReferenceIdeal Cert.ReferenceIdeal.Gen

/-- The reference's result, as a function of its two arguments. -/
def refOut (X W : (⟨2, ![1024, 1024]⟩ : Shape).Idx → EReal) : (⟨2, ![1024, 1024]⟩ : Shape).Idx → EReal := fun i => gelu (prod X W (i 0) (i 1))

/-- The run ends with it. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.ReferenceIdeal.Value.run (F := Ideal) m ρ)
  funext (i : S1024x1024.Idx)
  rw [show dot_S1024x1024_S1024x1024_S1024x1024_1_0_0_1_n_n = DotDims.plain 1024 1024 1024 from rfl]
  obtain ⟨a, b, rfl⟩ : ∃ a b, i = ix2 a b := ⟨i 0, i 1, eq_ix2 i⟩
  have hd := StackMember.dotGeneral_plain_apply (m := 1024) (k := 1024) (n := 1024) (φ₁ := .f32) (φ₂ := .f32) none
    (m ((c.tc : Thread nD τ).loc main_arg0)) (m ((c.tc : Thread nD τ).loc main_arg1)) a b
  unfold refOut prod gelu
  rw [show ix2 a b 0 = a from rfl, show ix2 a b 1 = b from rfl, ← hd]
  rfl

end

/-! ## The blocks -/

section

open Cert.KernelIdeal Cert.KernelIdeal.Gen

variable (m : (ℓ : Loc nD τ sig) → Buf (Elt Ideal) ℓ)

/-- With the first operand cut by rows and the second on every device, device `c`'s output is the `c`-th block of
    columns of the reference's result. -/
theorem out_block (X W : (⟨2, ![1024, 1024]⟩ : Shape).Idx → EReal)
    (hx : ∀ c : Dev nD, xAt m c = Layout.block ⟨2, ![64, 1024]⟩ ⟨2, ![1024, 1024]⟩ 0 16 c X) (hw : ∀ c : Dev nD, wAt m c = W) (c : Dev nD) :
    outAt m c = Layout.block ⟨2, ![1024, 64]⟩ ⟨2, ![1024, 1024]⟩ 1 16 c (refOut X W) := by
  funext (i : S1024x64.Idx)
  unfold outAt ybAt
  refine (actB_at m _ _ _).trans ?_
  show _ = gelu (prod X W _ _)
  refine congrArg gelu ?_
  unfold prod
  refine Finset.sum_congr rfl fun k _ => ?_
  rw [hx, hw]
  refine congrArg₂ (· * ·) (congrArg X (funext fun a => Fin.ext ?_)) (congrArg W (funext fun a => Fin.ext ?_))
  · match a with
    | ⟨0, _⟩ =>
      show (i 0).val / 64 * 64 + (i 0).val % 64 = (i 0).val
      omega
    | ⟨1, _⟩ => rfl
  · match a with
    | ⟨0, _⟩ => rfl
    | ⟨1, _⟩ =>
      show 64 * c.val + (i 1).val = c.val * 64 + (i 1).val
      omega

end

end Cert.RingProof

end
-- ==== Proof.lean ====
/-
The claims: each of the three programs runs to its end with its arguments unchanged and every semaphore counter at zero;
the kernel's idealization is the kernel's own text; and at the exact values the devices end with the column blocks of the
reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The two printings of the kernel's text name the same body, -/
theorem same_defs₀ : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl
  | ⟨_ + 1, h⟩, _ => exact absurd h (Nat.not_lt.2 (Nat.le_add_left _ _))

/-- and hence the same program. -/
theorem same_defs : Cert.Kernel.defs (F := Bits) = Cert.KernelIdeal.defs (F := Bits) := congrArg (Pipeline.defs Cert.KernelIdeal.pcfgs) same_defs₀

/-- The kernel as printed has the same text as its idealization, so its run is the one at the machine's own floats. -/
theorem frame_kernel : Cert.quiescent_Kernel := by
  intro m ρ _
  rw [same_defs]
  exact (θ_run Cert.KernelIdeal.defs _ _).mono (fun _ h => ⟨fun c => (h.1 c).2, h.2⟩) (Cert.RingProof.run_out (F := Bits) m ρ)

/-- The same of the idealization at the exact values. -/
theorem frame_kernel_ideal : Cert.quiescent_KernelIdeal := fun m ρ _ =>
  (θ_run Cert.KernelIdeal.defs _ _).mono (fun _ h => ⟨fun c => (h.1 c).2, h.2⟩) (Cert.RingProof.run_out (F := Ideal) m ρ)

/-- The reference is a straight-line host program without semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.RingProof.run_ref m ρ)

/-- On matching arguments the devices end with the column blocks of the reference's result. -/
theorem value : Cert.algebraic_KernelIdeal_ReferenceIdeal := by
  intro m ρ m' ρ' _ hagree
  refine ⟨Cert.RingProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).1.trans (Cert.RingProof.out_block m _ _ (fun c => (hagree c).1) (fun c => (hagree c).2) c), (h.1 c).2⟩)
      (Cert.RingProof.run_out (F := Ideal) m ρ)
  · exact (θ_run Cert.ReferenceIdeal.defs _ _).mono (fun _ h => h 0) (Cert.RingProof.run_ref m' ρ')

/-- The claims together, with the witnesses of the programs' stated side conditions. -/
theorem claim : Cert.Claim := ⟨Cert.Kernel.Gen.facts, Cert.KernelIdeal.Gen.facts, Cert.ReferenceIdeal.Gen.facts,
  frame_kernel, frame_kernel_ideal, frame_reference, trivial, value⟩

end Cert.Proof

end
